-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x64 : Shape := ⟨2, ![1024, 64]⟩
abbrev S1024x1024 : Shape := ⟨2, ![1024, 1024]⟩
abbrev S64x1024 : Shape := ⟨2, ![64, 1024]⟩
abbrev S16x64x64 : Shape := ⟨3, ![16, 64, 64]⟩
abbrev S16 : Shape := ⟨1, ![16]⟩
abbrev S_ : Shape := ⟨0, ![]⟩
abbrev S64x64 : Shape := ⟨2, ![64, 64]⟩
abbrev S1x64x64 : Shape := ⟨3, ![1, 64, 64]⟩
abbrev S1 : Shape := ⟨1, ![1]⟩
abbrev S64x16x64 : Shape := ⟨3, ![64, 16, 64]⟩

abbrev nBuf : Space → Nat
  | .hbm => 3
  | .vmem => 5
  | .smem => 0
  | _ => 0

abbrev bufTy : (tb : Table) → Fin (tcTables nBuf tb) → BufTy
  | .hbm, ⟨0, _⟩ => ⟨S1024x64, .f32⟩
  | .hbm, ⟨1, _⟩ => ⟨S1024x1024, .f32⟩
  | .hbm, ⟨2, _⟩ => ⟨S64x1024, .f32⟩
  | .local _ .vmem, ⟨0, _⟩ => ⟨S1024x64, .f32⟩
  | .local _ .vmem, ⟨1, _⟩ => ⟨S1024x1024, .f32⟩
  | .local _ .vmem, ⟨2, _⟩ => ⟨S64x1024, .f32⟩
  | .local _ .vmem, ⟨3, _⟩ => ⟨S16x64x64, .f32⟩
  | .local _ .vmem, ⟨4, _⟩ => ⟨S64x1024, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 17 36 bufScoped semScoped dmaSemScoped tileCredit tileCredit_eq_zero tileCredit_pos).withBarriers [(0, 16)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 16

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v64 : BitVec 32 := Scalar.muli v2 c64_i32
  let v65 : Index := Scalar.indexCast v64
  let c0 : Index := 0#32
  ![v65.toNat, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v68 : Index := Scalar.indexCast v2
  let c0_61 : Index := 0#32
  let c0_62 : Index := 0#32
  ![v68.toNat, 0, 0]
def k0_off3 (d0 : Dev nD) (c1_i32_63 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v72 : BitVec 32 := Scalar.addi v2 c1_i32_63
  let c16_i32_64 : BitVec 32 := 16#32
  let v73 : BitVec 32 := Scalar.remsi v72 c16_i32_64
  ![v73.toNat]
def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_68 : BitVec 32 := 0#32
  let c0_i32_69 : BitVec 32 := 0#32
  ![v2.toNat, 0, 0]
def k0_off6 (d0 : Dev nD) (c1_i32_63 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v72 : BitVec 32 := Scalar.addi v2 c1_i32_63
  let c16_i32_64 : BitVec 32 := 16#32
  let v73 : BitVec 32 := Scalar.remsi v72 c16_i32_64
  let c64_i32_65 : BitVec 32 := 64#32
  let v74 : BitVec 32 := Scalar.muli v73 c64_i32_65
  let c0_i32_70 : BitVec 32 := 0#32
  ![v74.toNat, 0]
def k0_dev16 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_63 : BitVec 32 := 1#32
  let v72 : BitVec 32 := Scalar.addi v2 c1_i32_63
  let c16_i32_64 : BitVec 32 := 16#32
  let v73 : BitVec 32 := Scalar.remsi v72 c16_i32_64
  let c1_i32_66 : BitVec 32 := 1#32
  let v75 : BitVec 32 := Scalar.muli v73 c1_i32_66
  let v76 : BitVec 32 := Scalar.addi c0_i32_67 v75
  v76.toNat
def k0_dev17 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_71 : BitVec 32 := 2#32
  let v84 : BitVec 32 := Scalar.addi v2 c2_i32_71
  let c16_i32_72 : BitVec 32 := 16#32
  let v85 : BitVec 32 := Scalar.remsi v84 c16_i32_72
  let c1_i32_74 : BitVec 32 := 1#32
  let v87 : BitVec 32 := Scalar.muli v85 c1_i32_74
  let v88 : BitVec 32 := Scalar.addi c0_i32_75 v87
  v88.toNat
def k0_dev18 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_79 : BitVec 32 := 3#32
  let v96 : BitVec 32 := Scalar.addi v2 c3_i32_79
  let c16_i32_80 : BitVec 32 := 16#32
  let v97 : BitVec 32 := Scalar.remsi v96 c16_i32_80
  let c1_i32_82 : BitVec 32 := 1#32
  let v99 : BitVec 32 := Scalar.muli v97 c1_i32_82
  let v100 : BitVec 32 := Scalar.addi c0_i32_83 v99
  v100.toNat
def k0_dev19 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_87 : BitVec 32 := 4#32
  let v108 : BitVec 32 := Scalar.addi v2 c4_i32_87
  let c16_i32_88 : BitVec 32 := 16#32
  let v109 : BitVec 32 := Scalar.remsi v108 c16_i32_88
  let c1_i32_90 : BitVec 32 := 1#32
  let v111 : BitVec 32 := Scalar.muli v109 c1_i32_90
  let v112 : BitVec 32 := Scalar.addi c0_i32_91 v111
  v112.toNat
def k0_dev20 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_95 : BitVec 32 := 5#32
  let v120 : BitVec 32 := Scalar.addi v2 c5_i32_95
  let c16_i32_96 : BitVec 32 := 16#32
  let v121 : BitVec 32 := Scalar.remsi v120 c16_i32_96
  let c1_i32_98 : BitVec 32 := 1#32
  let v123 : BitVec 32 := Scalar.muli v121 c1_i32_98
  let v124 : BitVec 32 := Scalar.addi c0_i32_99 v123
  v124.toNat
def k0_dev21 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_103 : BitVec 32 := 6#32
  let v132 : BitVec 32 := Scalar.addi v2 c6_i32_103
  let c16_i32_104 : BitVec 32 := 16#32
  let v133 : BitVec 32 := Scalar.remsi v132 c16_i32_104
  let c1_i32_106 : BitVec 32 := 1#32
  let v135 : BitVec 32 := Scalar.muli v133 c1_i32_106
  let v136 : BitVec 32 := Scalar.addi c0_i32_107 v135
  v136.toNat
def k0_dev22 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_111 : BitVec 32 := 7#32
  let v144 : BitVec 32 := Scalar.addi v2 c7_i32_111
  let c16_i32_112 : BitVec 32 := 16#32
  let v145 : BitVec 32 := Scalar.remsi v144 c16_i32_112
  let c1_i32_114 : BitVec 32 := 1#32
  let v147 : BitVec 32 := Scalar.muli v145 c1_i32_114
  let v148 : BitVec 32 := Scalar.addi c0_i32_115 v147
  v148.toNat
def k0_dev23 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_119 : BitVec 32 := 8#32
  let v156 : BitVec 32 := Scalar.addi v2 c8_i32_119
  let c16_i32_120 : BitVec 32 := 16#32
  let v157 : BitVec 32 := Scalar.remsi v156 c16_i32_120
  let c1_i32_122 : BitVec 32 := 1#32
  let v159 : BitVec 32 := Scalar.muli v157 c1_i32_122
  let v160 : BitVec 32 := Scalar.addi c0_i32_123 v159
  v160.toNat
def k0_dev24 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_127 : BitVec 32 := 9#32
  let v168 : BitVec 32 := Scalar.addi v2 c9_i32_127
  let c16_i32_128 : BitVec 32 := 16#32
  let v169 : BitVec 32 := Scalar.remsi v168 c16_i32_128
  let c1_i32_130 : BitVec 32 := 1#32
  let v171 : BitVec 32 := Scalar.muli v169 c1_i32_130
  let v172 : BitVec 32 := Scalar.addi c0_i32_131 v171
  v172.toNat
def k0_dev25 (d0 : Dev nD) : Nat :=
  let c0_i32_139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_135 : BitVec 32 := 10#32
  let v180 : BitVec 32 := Scalar.addi v2 c10_i32_135
  let c16_i32_136 : BitVec 32 := 16#32
  let v181 : BitVec 32 := Scalar.remsi v180 c16_i32_136
  let c1_i32_138 : BitVec 32 := 1#32
  let v183 : BitVec 32 := Scalar.muli v181 c1_i32_138
  let v184 : BitVec 32 := Scalar.addi c0_i32_139 v183
  v184.toNat
def k0_dev26 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_143 : BitVec 32 := 11#32
  let v192 : BitVec 32 := Scalar.addi v2 c11_i32_143
  let c16_i32_144 : BitVec 32 := 16#32
  let v193 : BitVec 32 := Scalar.remsi v192 c16_i32_144
  let c1_i32_146 : BitVec 32 := 1#32
  let v195 : BitVec 32 := Scalar.muli v193 c1_i32_146
  let v196 : BitVec 32 := Scalar.addi c0_i32_147 v195
  v196.toNat
def k0_dev27 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_151 : BitVec 32 := 12#32
  let v204 : BitVec 32 := Scalar.addi v2 c12_i32_151
  let c16_i32_152 : BitVec 32 := 16#32
  let v205 : BitVec 32 := Scalar.remsi v204 c16_i32_152
  let c1_i32_154 : BitVec 32 := 1#32
  let v207 : BitVec 32 := Scalar.muli v205 c1_i32_154
  let v208 : BitVec 32 := Scalar.addi c0_i32_155 v207
  v208.toNat
def k0_dev28 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_159 : BitVec 32 := 13#32
  let v216 : BitVec 32 := Scalar.addi v2 c13_i32_159
  let c16_i32_160 : BitVec 32 := 16#32
  let v217 : BitVec 32 := Scalar.remsi v216 c16_i32_160
  let c1_i32_162 : BitVec 32 := 1#32
  let v219 : BitVec 32 := Scalar.muli v217 c1_i32_162
  let v220 : BitVec 32 := Scalar.addi c0_i32_163 v219
  v220.toNat
def k0_dev29 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_167 : BitVec 32 := 14#32
  let v228 : BitVec 32 := Scalar.addi v2 c14_i32_167
  let c16_i32_168 : BitVec 32 := 16#32
  let v229 : BitVec 32 := Scalar.remsi v228 c16_i32_168
  let c1_i32_170 : BitVec 32 := 1#32
  let v231 : BitVec 32 := Scalar.muli v229 c1_i32_170
  let v232 : BitVec 32 := Scalar.addi c0_i32_171 v231
  v232.toNat
def k0_dev30 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_175 : BitVec 32 := 15#32
  let v240 : BitVec 32 := Scalar.addi v2 c15_i32_175
  let c16_i32_176 : BitVec 32 := 16#32
  let v241 : BitVec 32 := Scalar.remsi v240 c16_i32_176
  let c1_i32_178 : BitVec 32 := 1#32
  let v243 : BitVec 32 := Scalar.muli v241 c1_i32_178
  let v244 : BitVec 32 := Scalar.addi c0_i32_179 v243
  v244.toNat
def k0_off7 (d0 : Dev nD) (c1_i32_183 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v252 : BitVec 32 := Scalar.subi v2 c1_i32_183
  let c16_i32_184 : BitVec 32 := 16#32
  let v253 : BitVec 32 := Scalar.addi v252 c16_i32_184
  let c16_i32_185 : BitVec 32 := 16#32
  let v254 : BitVec 32 := Scalar.remsi v253 c16_i32_185
  ![v254.toNat]
def k0_off8 (d0 : Dev nD) (c1_i32_183 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v252 : BitVec 32 := Scalar.subi v2 c1_i32_183
  let c16_i32_184 : BitVec 32 := 16#32
  let v253 : BitVec 32 := Scalar.addi v252 c16_i32_184
  let c16_i32_185 : BitVec 32 := 16#32
  let v254 : BitVec 32 := Scalar.remsi v253 c16_i32_185
  let c0_i32_188 : BitVec 32 := 0#32
  let c0_i32_189 : BitVec 32 := 0#32
  ![v254.toNat, 0, 0]
abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Protocol.lean ====
/-
# The exchange: memrefs, semaphore cells, contents and the schedule of the rounds

Every device `c` first signals the barrier semaphore of each of its fifteen peers and waits for fifteen units on its own;
then it copies, for every peer `p`, rows `64p … 64p+63` of its own `x` into slot `c` of `p`'s gather buffer, waits for its
own fifteen slots, and, after the product, for its fifteen departures.

* The BARRIER cell of `c` has one duty per peer `p` of one unit. Its payload is slot `c` of `p`'s gather buffer, at any contents:
  after the wait `c` owns every slot that it is about to write.
* The RECEIVE cell `(c, j)`, `j ≠ c`, has one duty, paid by `j`'s copy. Its payload is slot `j` of `c`'s gather buffer, holding
  rows `64c … 64c+63` of `j`'s `x`.
* The SEND cell `(c, j)`, `j ≠ c`, has one duty, paid when the copy to `j` has left. Its payload is the block of rows of `x` that it read.

The cells `(c, c)` and the kernel's other semaphores take part in nothing.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.SL.BI.BigOpNat
public import Idealize.ShloMosaic.Lib.ValueLayout
public import Idealize.ShloMosaic.Lib.Tactic

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-! ## The resource algebra: the pipeline library's copy and the exchange's, whose duties are named by devices -/

abbrev UX : Type := URounds (GSem nD τ sig) (Dev nD)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-! ## The peers, in the kernel's order -/

set_option backward.proofsInPublic true in
/-- The device `k` places after `c`: whom the `k`-th signal, copy and departure wait concern. -/
def peer (c : Dev nD) (k : ℕ) : Dev nD := ⟨(c.val + k) % 16, Nat.mod_lt _ (by decide)⟩
set_option backward.proofsInPublic true in
/-- The device `k` places before `c`: whose copy the `k`-th receive wait is for. -/
def orig (c : Dev nD) (k : ℕ) : Dev nD := ⟨(c.val + (16 - k)) % 16, Nat.mod_lt _ (by decide)⟩

theorem peer_ne (c : Dev nD) : ∀ k ∈ Finset.Ico 1 16, peer c k ≠ c := by revert c; decide
theorem orig_ne (c : Dev nD) : ∀ k ∈ Finset.Ico 1 16, orig c k ≠ c := by revert c; decide
theorem peer_inj (c : Dev nD) : ∀ k ∈ Finset.Ico 1 16, ∀ k' ∈ Finset.Ico 1 16, peer c k = peer c k' → k = k' := by revert c; decide
theorem orig_inj (c : Dev nD) : ∀ k ∈ Finset.Ico 1 16, ∀ k' ∈ Finset.Ico 1 16, orig c k = orig c k' → k = k' := by revert c; decide
theorem peers_eq (c : Dev nD) : Finset.univ.erase c = (Finset.Ico 1 16).image (peer c) := by revert c; decide
theorem origs_eq (c : Dev nD) : Finset.univ.erase c = (Finset.Ico 1 16).image (orig c) := by revert c; decide

/-- A conjunction over the other devices is one over the kernel's steps, by the peer of each step; -/
theorem bigSep_peers {M : Type} [URA M] (c : Dev nD) (Φ : Dev nD → sProp M) :
    bigSep (Finset.univ.erase c) Φ = bigSep (Finset.Ico 1 16) fun k => Φ (peer c k) := by
  rw [peers_eq]; exact Finset.fold_image (peer_inj c)
/-- likewise by the origin of each step. -/
theorem bigSep_origs {M : Type} [URA M] (c : Dev nD) (Φ : Dev nD → sProp M) :
    bigSep (Finset.univ.erase c) Φ = bigSep (Finset.Ico 1 16) fun k => Φ (orig c k) := by
  rw [origs_eq]; exact Finset.fold_image (orig_inj c)

/-! ## The memrefs -/

abbrev xM : Memref sig .tc .vmem S1024x64 .f32 := Memref.whole cc0_stg0_0
abbrev wM : Memref sig .tc .vmem S1024x1024 .f32 := Memref.whole cc0_stg1_0
abbrev oM : Memref sig .tc .vmem S64x1024 .f32 := Memref.whole cc0_stg2_0
abbrev bM : Memref sig .tc .vmem S16x64x64 .f32 := Memref.whole cc0_scratch0

theorem slot_inb (j : Dev nD) : ∀ a, (![j.val, 0, 0] : Fin 3 → ℕ) a + S1x64x64.size a ≤ S16x64x64.size a := by revert j; decide
theorem rows_inb (j : Dev nD) : ∀ a, (![64 * j.val, 0] : Fin 2 → ℕ) a + S64x64.size a ≤ S1024x64.size a := by revert j; decide
theorem sem_inb (j : Dev nD) : ∀ a, (![j.val] : Fin 1 → ℕ) a + S1.size a ≤ S16.size a := by revert j; decide

/-- Slot `j` of the gather buffer, as the copies name it, -/
abbrev slotM (j : Dev nD) : Memref sig .tc .vmem S64x64 .f32 :=
  (bM.slice (Rect.unit (s := S16x64x64) ![j.val, 0, 0] S1x64x64.size (slot_inb j)) (fun _ => rfl)).squeeze S64x64 squeezes_S1x64x64_S64x64
/-- and block `j` of the rows of `x`. -/
abbrev rowsM (j : Dev nD) : Memref sig .tc .vmem S64x64 .f32 :=
  xM.slice (Rect.unit (s := S1024x64) ![64 * j.val, 0] S64x64.size (rows_inb j)) (fun _ => rfl)

/-- Their element sets. -/
def slotSet (j : Dev nD) : Finset S16x64x64.Idx := (Rect.unit (s := S16x64x64) ![j.val, 0, 0] S1x64x64.size (slot_inb j)).set
def rowsSet (j : Dev nD) : Finset S1024x64.Idx := (Rect.unit (s := S1024x64) ![64 * j.val, 0] S64x64.size (rows_inb j)).set

theorem slotM_set (j : Dev nD) : (slotM j).view.set = slotSet j := (View.set_reshape _ _).trans (View.set_slice_whole _ _)
theorem rowsM_set (j : Dev nD) : (rowsM j).view.set = rowsSet j := View.set_slice_whole _ _

theorem mem_slotSet (j : Dev nD) (i : S16x64x64.Idx) : i ∈ slotSet j ↔ (i 0).val = j.val := by
  unfold slotSet; rw [Rect.mem_set_unit]
  constructor
  · intro h; have h0 := h 0
    have : j.val ≤ (i 0).val ∧ (i 0).val < j.val + 1 := h0
    omega
  · intro h a
    match a with
    | ⟨0, _⟩ => exact (show j.val ≤ (i 0).val ∧ (i 0).val < j.val + 1 by omega)
    | ⟨1, _⟩ => exact (show 0 ≤ (i 1).val ∧ (i 1).val < 0 + 64 from ⟨Nat.zero_le _, by have := (i 1).isLt; simpa using this⟩)
    | ⟨2, _⟩ => exact (show 0 ≤ (i 2).val ∧ (i 2).val < 0 + 64 from ⟨Nat.zero_le _, by have := (i 2).isLt; simpa using this⟩)

theorem mem_rowsSet (j : Dev nD) (i : S1024x64.Idx) : i ∈ rowsSet j ↔ (i 0).val / 64 = j.val := by
  unfold rowsSet; rw [Rect.mem_set_unit]
  constructor
  · intro h
    have : 64 * j.val ≤ (i 0).val ∧ (i 0).val < 64 * j.val + 64 := h 0
    omega
  · intro h a
    match a with
    | ⟨0, _⟩ => exact (show 64 * j.val ≤ (i 0).val ∧ (i 0).val < 64 * j.val + 64 by omega)
    | ⟨1, _⟩ => exact (show 0 ≤ (i 1).val ∧ (i 1).val < 0 + 64 from ⟨Nat.zero_le _, by have := (i 1).isLt; simpa using this⟩)

theorem slotSet_disjoint (j j' : Dev nD) (h : j ≠ j') : Disjoint (slotSet j) (slotSet j') :=
  Finset.disjoint_left.mpr fun i hi hi' => h (Fin.ext (((mem_slotSet j i).mp hi).symm.trans ((mem_slotSet j' i).mp hi')))
theorem rowsSet_disjoint (j j' : Dev nD) (h : j ≠ j') : Disjoint (rowsSet j) (rowsSet j') :=
  Finset.disjoint_left.mpr fun i hi hi' => h (Fin.ext (((mem_rowsSet j i).mp hi).symm.trans ((mem_rowsSet j' i).mp hi')))
theorem slotSet_cover (i : S16x64x64.Idx) : ∃ j, i ∈ slotSet j := ⟨⟨(i 0).val, (i 0).isLt⟩, (mem_slotSet _ i).mpr rfl⟩
theorem rowsSet_cover (i : S1024x64.Idx) : ∃ j, i ∈ rowsSet j :=
  ⟨⟨(i 0).val / 64, by have : (i 0).val < 1024 := (i 0).isLt; show _ < 16; omega⟩, (mem_rowsSet _ i).mpr rfl⟩

/-! ## The semaphores and their cells -/

abbrev barS : Sem sig := (SemArray.scalar (sig.barrier 0 rfl) : Sems sig S_).sem
/-- The send and the receive semaphore of device `j`, as the kernel names them. -/
abbrev sendS (j : Dev nD) : DmaSem sig :=
  ((cc0_scratch2.slice (Rect.unit (s := S16) ![j.val] S1.size (sem_inb j))).squeeze S_ squeezes_S1_S_).sem
abbrev recvS (j : Dev nD) : DmaSem sig :=
  ((cc0_scratch3.slice (Rect.unit (s := S16) ![j.val] S1.size (sem_inb j))).squeeze S_ squeezes_S1_S_).sem

/-- The exchange's semaphores: the barrier's (`none`), the send semaphores (`some (false, j)`), the receive semaphores (`some (true, j)`). -/
abbrev Which : Type := Option (Bool × Dev nD)
def csem : Which → SemLoc sig
  | none => .reg barS
  | some (false, j) => .dma (sendS j)
  | some (true, j) => .dma (recvS j)
set_option backward.proofsInPublic true in
/-- Which of the exchange's semaphores a semaphore is, if any. -/
def which : SemLoc sig → Option Which
  | .reg s => if s = barS then some none else none
  | .dma s => if h : 3 ≤ s.val ∧ s.val < 19 then some (some (false, ⟨s.val - 3, by show _ < 16; omega⟩))
      else if h : 19 ≤ s.val ∧ s.val < 35 then some (some (true, ⟨s.val - 19, by show _ < 16; omega⟩)) else none
theorem which_csem (k : Which) : which (csem k) = some k := by revert k; decide
theorem csem_injective : Function.Injective csem := fun k k' h =>
  Option.some.inj ((which_csem k).symm.trans ((congrArg which h).trans (which_csem k')))

abbrev cell (c : Dev nD) (k : Which) : GSem nD τ sig := ((c : Thread nD τ), csem k)
abbrev barCell (c : Dev nD) : GSem nD τ sig := ((c : Thread nD τ), .reg barS)
abbrev sendCell (c j : Dev nD) : GSem nD τ sig := ((c : Thread nD τ), .dma (sendS j))
abbrev recvCell (c j : Dev nD) : GSem nD τ sig := ((c : Thread nD τ), .dma (recvS j))

theorem cell_inj {c c' : Dev nD} {k k' : Which} (h : cell c k = cell c' k') : c = c' ∧ k = k' :=
  ⟨congrArg (fun g : GSem nD τ sig => g.1.1) h, csem_injective (congrArg Prod.snd h)⟩

/-- What one copy credits. -/
abbrev N : ℕ := (slotM 0).view.dmaCredit
theorem N_pos : 0 < N := View.dmaCredit_pos _ (by decide)
theorem credit_slot (j : Dev nD) : (slotM j).view.dmaCredit = N := rfl
theorem credit_rows (j : Dev nD) : (rowsM j).view.dmaCredit = N := rfl

/-! ## Contents -/

/-- What device `c`'s gather buffer holds once all have arrived: slot `j` is rows `64c … 64c+63` of device `j`'s `x`. -/
def gathered (x : Dev nD → Vec F S1024x64 .f32) (c : Dev nD) : Vec F S16x64x64 .f32 := fun i =>
  x (i 0) (ix2 (⟨64 * c.val + (i 1).val, by have h1 : (i 1).val < 64 := (i 1).isLt; have h : c.val < 16 := c.isLt; omega⟩ : Fin 1024) (i 2))

/-- Slot `j` of device `c`'s gather buffer, at contents `f`; -/
def slotPts (c j : Dev nD) (f : Buf (Elt F) ((c : Thread nD τ).loc cc0_scratch0)) : sProp 𝕄 :=
  ((c : Thread nD τ).loc cc0_scratch0) ↦[slotSet j]{fullShare} f
/-- block `j` of the rows of its `x`. -/
def rowsPts (x : Dev nD → Vec F S1024x64 .f32) (c j : Dev nD) : sProp 𝕄 :=
  ((c : Thread nD τ).loc cc0_stg0_0) ↦[rowsSet j]{fullShare} (x c : Buf (Elt F) ((c : Thread nD τ).loc cc0_stg0_0))

instance slotPts_storable (c j : Dev nD) (f) : BI.Storable (upEmb : UEmb _ 𝕄) (slotPts (F := F) c j f) := by unfold slotPts; infer_instance
instance rowsPts_storable (x : Dev nD → Vec F S1024x64 .f32) (c j : Dev nD) : BI.Storable (upEmb : UEmb _ 𝕄) (rowsPts (F := F) x c j) := by
  unfold rowsPts; infer_instance

/-- The gather buffer held whole is held slot by slot; -/
theorem slots_split (c : Dev nD) (f : Buf (Elt F) ((c : Thread nD τ).loc cc0_scratch0)) :
    (((c : Thread nD τ).loc cc0_scratch0) ↦{fullShare} f : sProp 𝕄) = bigSep Finset.univ fun j => slotPts c j f :=
  Ring.pointsTo_blocks (ℓ := (c : Thread nD τ).loc cc0_scratch0) slotSet slotSet_disjoint
    (Finset.eq_univ_of_forall fun i => by obtain ⟨j, hj⟩ := slotSet_cover i; exact Finset.mem_biUnion.mpr ⟨j, Finset.mem_univ _, hj⟩) f
/-- so is `x`, block by block. -/
theorem rows_split (x : Dev nD → Vec F S1024x64 .f32) (c : Dev nD) :
    (((c : Thread nD τ).loc cc0_stg0_0) ↦{fullShare} (x c : Buf (Elt F) ((c : Thread nD τ).loc cc0_stg0_0)) : sProp 𝕄)
      = bigSep Finset.univ fun j => rowsPts x c j :=
  Ring.pointsTo_blocks (ℓ := (c : Thread nD τ).loc cc0_stg0_0) rowsSet rowsSet_disjoint
    (Finset.eq_univ_of_forall fun i => by obtain ⟨j, hj⟩ := rowsSet_cover i; exact Finset.mem_biUnion.mpr ⟨j, Finset.mem_univ _, hj⟩) _

/-- Element `(a, b)` of block `p` of the rows is element `(64p + a, b)` of `x`; -/
theorem rows_emb (p : Dev nD) (a b : Fin 64) : (rowsM p).view.emb (ix2 a b)
    = (ix2 (⟨64 * p.val + a.val, by have h : p.val < 16 := p.isLt; have := a.isLt; omega⟩ : Fin 1024) b : S1024x64.Idx) := by
  show (Rect.unit (s := S1024x64) ![64 * p.val, 0] S64x64.size (rows_inb p)).emb (ix2 a b) = _
  funext ax; apply Fin.ext; rw [Rect.emb_apply]
  match ax with
  | ⟨0, _⟩ => exact (show 64 * p.val + 1 * a.val = 64 * p.val + a.val by omega)
  | ⟨1, _⟩ => exact (show 0 + 1 * b.val = b.val by omega)
/-- element `(a, b)` of slot `j` is element `(j, a, b)` of the gather buffer. -/
theorem slot_emb (j : Dev nD) (a b : Fin 64) : (slotM j).view.emb (ix2 a b) = (ix3 j a b : S16x64x64.Idx) := by
  show (Rect.unit (s := S16x64x64) ![j.val, 0, 0] S1x64x64.size (slot_inb j)).emb (Shape.reshapeEquiv _ (ix2 a b)) = _
  rw [reshapeEquiv_ix2_1ab]
  funext ax; apply Fin.ext; rw [Rect.emb_apply]
  match ax with
  | ⟨0, _⟩ => exact (show j.val + 1 * 0 = j.val by omega)
  | ⟨1, _⟩ => exact (show 0 + 1 * a.val = a.val by omega)
  | ⟨2, _⟩ => exact (show 0 + 1 * b.val = b.val by omega)
/-- Every element of slot `j` is one of those. -/
theorem eq_of_slotSet {j : Dev nD} {i : S16x64x64.Idx} (hi : i ∈ slotSet j) : i = ix3 j (i 1) (i 2) := by
  have h0 : (i 0).val = j.val := (mem_slotSet j i).mp hi
  funext ax
  match ax with
  | ⟨0, _⟩ => exact Fin.ext h0
  | ⟨1, _⟩ => rfl
  | ⟨2, _⟩ => rfl

/-- A copy of block `p` of `c`'s rows into slot `c` leaves there what `p`'s gather buffer is to hold. -/
theorem landed_eq (x : Dev nD → Vec F S1024x64 .f32) (c p : Dev nD) (f : Vec F S16x64x64 .f32) (i : S16x64x64.Idx) (hi : i ∈ slotSet c) :
    (slotM c).view.write (Elt F) f ((rowsM p).view.read (Elt F) (x c)) Finset.univ i = gathered x p i := by
  obtain ⟨a, b, rfl⟩ : ∃ a b, i = ix3 c a b := ⟨_, _, eq_of_slotSet hi⟩
  have hw : ∀ (v : Vec F S64x64 .f32), (slotM c).view.write (Elt F) f v Finset.univ (ix3 c a b) = v (ix2 a b) := fun v => by
    rw [← slot_emb c a b]; exact View.write_emb_of_mem _ _ (Finset.mem_univ _)
  rw [hw]
  have hr : ∀ (v : Vec F S1024x64 .f32), (rowsM p).view.read (Elt F) v (ix2 a b) = v ((rowsM p).view.emb (ix2 a b)) := fun v => rfl
  rw [hr, rows_emb]
  rfl

/-! ## The schedule -/

variable (x : Dev nD → Vec F S1024x64 .f32)

/-- One round, round 0: a barrier cell has a duty per peer, a send or receive cell of another device one duty, named by that device. -/
def dutiesOf (c : Dev nD) : Option Which → Finset (Dev nD)
  | some none => Finset.univ.erase c
  | some (some (_, j)) => if j = c then ∅ else {j}
  | none => ∅
def amountOf : Option Which → ℕ
  | some none => 1
  | _ => N
/-- What a duty hands over: a peer's slot for the waiting device; the rows read; the slot filled. -/
def payOf (c d : Dev nD) : Option Which → sProp 𝕄
  | some none => iprop(∃ f, slotPts d c f)
  | some (some (false, j)) => rowsPts x c j
  | some (some (true, j)) => slotPts c j (gathered x c)
  | none => iprop(emp)

def sched : Rounds.Schedule (GSem nD τ sig) (Dev nD) 𝕄 where
  duties g r := if r = 0 ∧ g.1.2 = .tc then dutiesOf g.1.1 (which g.2) else ∅
  unitless _ := False
  amount g _ _ := amountOf (which g.2)
  payload g _ d := payOf x g.1.1 d (which g.2)
  amount_pos g _ _ _ := by
    unfold amountOf; split
    · exact Nat.one_pos
    · exact N_pos

instance sched_payload_storable (g : GSem nD τ sig) (r : ℕ) (d : Dev nD) :
    BI.Storable (upEmb : UEmb _ 𝕄) ((sched x).payload g r d) := by
  show BI.Storable upEmb (payOf x g.1.1 d (which g.2))
  unfold payOf
  split <;> infer_instance

theorem duties_cell (c : Dev nD) (k : Which) : (sched x).duties (cell c k) 0 = dutiesOf c (some k) := by
  show (if 0 = 0 ∧ (cell c k).1.2 = .tc then dutiesOf c (which (csem k)) else ∅) = _; rw [if_pos ⟨rfl, rfl⟩, which_csem]
theorem amount_cell (c : Dev nD) (k : Which) (d : Dev nD) : (sched x).amount (cell c k) 0 d = amountOf (some k) := by
  show amountOf (which (csem k)) = _; rw [which_csem]
theorem payload_cell (c : Dev nD) (k : Which) (d : Dev nD) : (sched x).payload (cell c k) 0 d = payOf x c d (some k) := by
  show payOf x c d (which (csem k)) = _; rw [which_csem]
theorem duties_later (g : GSem nD τ sig) : ∀ r, 1 ≤ r → (sched x).duties g r = ∅ :=
  fun r hr => if_neg fun h => by omega
/-- The cell of a device's own name has no duty at all. -/
theorem duties_self (b : Bool) (c : Dev nD) : ∀ r, 0 ≤ r → (sched x).duties (cell c (some (b, c))) r = ∅ := fun r _ => by
  rcases Nat.eq_zero_or_pos r with rfl | hr
  · rw [duties_cell]; exact if_pos rfl
  · exact duties_later x _ r hr

theorem duties_other (c j : Dev nD) (b : Bool) (h : j ≠ c) : (sched x).duties (cell c (some (b, j))) 0 = {j} := by
  rw [duties_cell]; exact if_neg h
theorem expect_other (c j : Dev nD) (b : Bool) (h : j ≠ c) : (sched x).expect (cell c (some (b, j))) 0 = N := by
  unfold Schedule.expect Schedule.amountOf
  rw [duties_other x c j b h, Finset.sum_singleton, amount_cell]; rfl
theorem rest_other (c j : Dev nD) (b : Bool) (h : j ≠ c) :
    bigSep ((sched x).duties (cell c (some (b, j))) 0 \ ∅) (fun d => (sched x).payload (cell c (some (b, j))) 0 d)
      = payOf x c j (some (some (b, j))) := by
  rw [Finset.sdiff_empty, duties_other x c j b h, bigSep_singleton, payload_cell]

/-! The same at each kind of cell. -/

theorem duties_bar (c : Dev nD) : (sched x).duties (barCell c) 0 = Finset.univ.erase c := duties_cell x c none
theorem amount_bar (c d : Dev nD) : (sched x).amount (barCell c) 0 d = 1 := amount_cell x c none d
theorem payload_bar (c d : Dev nD) : (sched x).payload (barCell c) 0 d = iprop(∃ f, slotPts d c f) := payload_cell x c none d
theorem expect_bar (c : Dev nD) : (sched x).expect (barCell c) 0 = 15 := by
  unfold Schedule.expect Schedule.amountOf
  rw [duties_bar, Finset.sum_congr rfl fun d _ => amount_bar x c d]
  revert c; decide
/-- What a device's barrier wait brings: its slot of every peer's gather buffer. -/
theorem rest_bar (c : Dev nD) : bigSep ((sched x).duties (barCell c) 0 \ ∅) (fun d => (sched x).payload (barCell c) 0 d)
    = (bigSep (Finset.Ico 1 16) fun k => iprop(∃ f, slotPts (peer c k) c f) : sProp 𝕄) := by
  rw [Finset.sdiff_empty, duties_bar, bigSep_congr fun d _ => payload_bar x c d]
  exact bigSep_peers c fun d => iprop(∃ f, slotPts d c f)

theorem duties_send (c j : Dev nD) (h : j ≠ c) : (sched x).duties (sendCell c j) 0 = {j} := duties_other x c j false h
theorem amount_send (c j d : Dev nD) : (sched x).amount (sendCell c j) 0 d = N := amount_cell x c (some (false, j)) d
theorem payload_send (c j d : Dev nD) : (sched x).payload (sendCell c j) 0 d = rowsPts x c j := payload_cell x c (some (false, j)) d
theorem expect_send (c j : Dev nD) (h : j ≠ c) : (sched x).expect (sendCell c j) 0 = N := expect_other x c j false h
theorem rest_send (c j : Dev nD) (h : j ≠ c) :
    bigSep ((sched x).duties (sendCell c j) 0 \ ∅) (fun d => (sched x).payload (sendCell c j) 0 d) = rowsPts x c j := rest_other x c j false h

theorem duties_recv (c j : Dev nD) (h : j ≠ c) : (sched x).duties (recvCell c j) 0 = {j} := duties_other x c j true h
theorem amount_recv (c j d : Dev nD) : (sched x).amount (recvCell c j) 0 d = N := amount_cell x c (some (true, j)) d
theorem payload_recv (c j d : Dev nD) : (sched x).payload (recvCell c j) 0 d = slotPts c j (gathered x c) := payload_cell x c (some (true, j)) d
theorem expect_recv (c j : Dev nD) (h : j ≠ c) : (sched x).expect (recvCell c j) 0 = N := expect_other x c j true h
theorem rest_recv (c j : Dev nD) (h : j ≠ c) :
    bigSep ((sched x).duties (recvCell c j) 0 \ ∅) (fun d => (sched x).payload (recvCell c j) 0 d) = slotPts c j (gathered x c) := rest_other x c j true h

end Cert.Exchange

end
-- ==== Proof.Steps.lean ====
/-
# One lemma per kind of step

Each states, for the kernel's `n`-th step of its kind, how the exchange's state moves; `R` is what the step leaves alone. The kernel's parts are chains of them.
-/
module

public import proofs.«01_k».proof.Proof.Protocol

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a kernel program on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What a device owes, and the levels -/

/-- The units that `c` still owes its peers' barriers before its `n`-th signal; -/
def owedSig (c : Dev nD) (n : ℕ) : CellTallies nD τ sig Unit := ∑ k ∈ Finset.Ico n 16, tallyAt (barCell (peer c k)) () 1
/-- the copies' credits that it still owes their receive cells before its `n`-th copy. -/
def owedSend (c : Dev nD) (n : ℕ) : CellTallies nD τ sig Unit := ∑ k ∈ Finset.Ico n 16, tallyAt (recvCell (peer c k) c) () N
/-- What it owes at launch. -/
def O₀ (c : Dev nD) : CellTallies nD τ sig Unit := owedSend c 1 + owedSig c 1

theorem owedSig_step (c : Dev nD) {n : ℕ} (h : n < 16) : owedSig c n = owedSig c (n + 1) + tallyAt (barCell (peer c n)) () 1 := by
  unfold owedSig; rw [Ring.sum_Ico_succ h, add_comm]
theorem owedSend_step (c : Dev nD) {n : ℕ} (h : n < 16) : owedSend c n = owedSend c (n + 1) + tallyAt (recvCell (peer c n) c) () N := by
  unfold owedSend; rw [Ring.sum_Ico_succ h, add_comm]
theorem owedSig_end (c : Dev nD) : owedSig c 16 = 0 := by unfold owedSig; rw [Finset.Ico_self, Finset.sum_empty]
theorem owedSend_end (c : Dev nD) : owedSend c 16 = 0 := by unfold owedSend; rw [Finset.Ico_self, Finset.sum_empty]

/-- A sum of tallies is positive only where one of them is. -/
theorem pos_of_sum {s : Finset ℕ} {g : ℕ → GSem nD τ sig} {v : ℕ} {a : GSem nD τ sig} {u : Unit}
    (h : 0 < (∑ k ∈ s, tallyAt (g k) () v : CellTallies nD τ sig Unit) a u) : ∃ k ∈ s, a = g k := by
  by_contra hn
  rw [Finset.sum_apply, Finsupp.finsetSum_apply, Finset.sum_eq_zero fun k hk => by
    rw [tallyAt_apply, if_neg fun h' => hn ⟨k, hk, h'.1⟩]] at h
  exact Nat.lt_irrefl 0 h

def L (g : GSem nD τ sig) : Finset Unit := if g.1.2 = .tc then {()} else ∅
def lvOf : Option Which → ℕ
  | some none => 1
  | some (some (true, _)) => 2
  | _ => 0
/-- Barrier cells at level 1, receive cells at 2, everything else at 0. -/
def lv (g : GSem nD τ sig) (_ : Unit) : ℕ := lvOf (which g.2)

theorem L_of_ne (g : GSem nD τ sig) (h : g.1.2 ≠ .tc) : L g = ∅ := if_neg h
theorem mem_L (c : Dev nD) (sm : SemLoc sig) : () ∈ L ((c : Thread nD τ), sm) := by
  rw [show L ((c : Thread nD τ), sm) = {()} from if_pos rfl]; exact Finset.mem_singleton_self _
theorem lv_bar (c : Dev nD) : lv (barCell c) () = 1 := by show lvOf (which (csem none)) = 1; rw [which_csem]; rfl
theorem lv_recv (c j : Dev nD) : lv (recvCell c j) () = 2 := by show lvOf (which (csem (some (true, j)))) = 2; rw [which_csem]; rfl

/-- At its barrier wait a device owes receive credits only: receive cells are above barrier cells. -/
theorem mayWait_bar (c : Dev nD) (n : ℕ) : (levAts L lv : sProp 𝕄) ⊢ MayWait (c : Thread nD τ) (.reg barS) () (owedSend c n) :=
  MayOwe.of_cut (L := L) (lev := lv) 1 (fun p hp => by rw [Finset.mem_singleton.mp hp]; exact mem_L c _)
    (fun g u hg => by obtain ⟨k, _, rfl⟩ := pos_of_sum hg; exact mem_L _ _)
    (fun p hp => by rw [Finset.mem_singleton.mp hp]; exact le_of_eq (lv_bar c))
    (fun g u hg => by obtain ⟨k, _, rfl⟩ := pos_of_sum hg; rw [lv_recv]; decide)

/-- A staging wait is below everything that a device owes. -/
theorem mayWait_stage (c : Dev nD) (q : SemLoc sig) (hq : which q = none) (O : CellTallies nD τ sig Unit) (hO : O = O₀ c ∨ O = 0) :
    (levAts L lv : sProp 𝕄) ⊢ MayWait (c : Thread nD τ) q () O := by
  rcases hO with rfl | rfl
  · have hpos : ∀ {g : GSem nD τ sig} {u : Unit}, 0 < O₀ c g u → () ∈ L g ∧ 0 < lv g () := fun {g u} hg => by
      unfold O₀ at hg
      rw [Pi.add_apply, Finsupp.add_apply] at hg
      rcases Nat.eq_zero_or_pos (owedSend c 1 g u) with h0 | h
      · rw [h0, Nat.zero_add] at hg
        obtain ⟨k, _, rfl⟩ := pos_of_sum hg
        exact ⟨mem_L _ _, by rw [lv_bar]; decide⟩
      · obtain ⟨k, _, rfl⟩ := pos_of_sum h
        exact ⟨mem_L _ _, by rw [lv_recv]; decide⟩
    exact MayOwe.of_cut (L := L) (lev := lv) 0 (fun p hp => by rw [Finset.mem_singleton.mp hp]; exact mem_L c _)
      (fun g u hg => (hpos hg).1)
      (fun p hp => by rw [Finset.mem_singleton.mp hp]; unfold lv; rw [hq]; exact le_refl _)
      (fun g u hg => (hpos hg).2)
  · rw [MayWait_zero]; iintro -; iempintro

/-! ## The state -/

section State

variable (x : Dev nD → Vec F S1024x64 .f32) (K : Dev nD × Which → ℕ)

/-- All cells' invariants, under the names that the launch allocated them at, and that every cell has reached round 0. -/
def records : sProp 𝕄 :=
  iprop((bigSep Finset.univ fun ck : Dev nD × Which => cellInv EX (sched x) (K ck) (cell ck.1 ck.2))
    ∗ bigSep Finset.univ fun ck : Dev nD × Which => reached EX (cell ck.1 ck.2) 0)

instance records_persistent : BI.Persistent (records x K) := by unfold records; infer_instance

theorem records_inv (c : Dev nD) (k : Which) : records x K ⊢ cellInv EX (sched x) (K (c, k)) (cell c k) := by
  have h : (bigSep Finset.univ fun ck : Dev nD × Which => (cellInv EX (sched x) (K ck) (cell ck.1 ck.2) : sProp 𝕄))
      ⊢ cellInv EX (sched x) (K (c, k)) (cell c k) := bigSep_elim (Finset.mem_univ (c, k))
  unfold records; iintro ⟨H, -⟩
  iapply h; iexact H
theorem records_reached (c : Dev nD) (k : Which) : records x K ⊢ reached EX (cell c k) 0 := by
  have h : (bigSep Finset.univ fun ck : Dev nD × Which => (reached EX (cell ck.1 ck.2) 0 : sProp 𝕄)) ⊢ reached EX (cell c k) 0 :=
    bigSep_elim (Finset.mem_univ (c, k))
  unfold records; iintro ⟨-, H⟩
  iapply h; iexact H

theorem inv_bar (c : Dev nD) : records x K ⊢ cellInv EX (sched x) (K (c, none)) (barCell c) := records_inv x K c none
theorem inv_send (c j : Dev nD) : records x K ⊢ cellInv EX (sched x) (K (c, some (false, j))) (sendCell c j) := records_inv x K c (some (false, j))
theorem inv_recv (c j : Dev nD) : records x K ⊢ cellInv EX (sched x) (K (c, some (true, j))) (recvCell c j) := records_inv x K c (some (true, j))
theorem reached_bar (c : Dev nD) : records x K ⊢ reached EX (barCell c) 0 := records_reached x K c none
theorem reached_send (c j : Dev nD) : records x K ⊢ reached EX (sendCell c j) 0 := records_reached x K c (some (false, j))
theorem reached_recv (c j : Dev nD) : records x K ⊢ reached EX (recvCell c j) 0 := records_reached x K c (some (true, j))

/-- What device `c` owes, whatever it has waited for. -/
def Ow (c : Dev nD) (O : CellTallies nD τ sig Unit) : sProp 𝕄 := iprop(∃ W, owes (c : Thread nD τ) O W)

/-- What the `k`-th signal hands over; -/
def sigF (c : Dev nD) (k : ℕ) : sProp 𝕄 := iprop(dutyTok EX (barCell (peer c k)) 0 c ∗ ∃ f, slotPts c (peer c k) f)
/-- what the barrier brings for the `k`-th copy; -/
def gotF (c : Dev nD) (k : ℕ) : sProp 𝕄 := iprop(∃ f, slotPts (peer c k) c f)
/-- what the `k`-th copy takes, apart from that; -/
def tokF (c : Dev nD) (k : ℕ) : sProp 𝕄 :=
  iprop(dutyTok EX (sendCell c (peer c k)) 0 (peer c k) ∗ dutyTok EX (recvCell (peer c k) c) 0 c)
def sendF (c : Dev nD) (k : ℕ) : sProp 𝕄 := iprop(gotF c k ∗ tokF c k ∗ rowsPts x c (peer c k))
/-- what it leaves; -/
def sentF (c : Dev nD) (k : ℕ) : sProp 𝕄 := cred (tallyAt (sendCell c (peer c k)) () N)
/-- what the `k`-th receive wait takes and leaves; -/
def recvF (c : Dev nD) (k : ℕ) : sProp 𝕄 :=
  iprop(atPos EX (recvCell c (orig c k)) 0 ∅ 0 ∗ cred (tallyAt (recvCell c (orig c k)) () N))
def rcvdF (c : Dev nD) (k : ℕ) : sProp 𝕄 := iprop(slotPts c (orig c k) (gathered x c) ∗ semVal (recvCell c (orig c k)) 0)
/-- what the `k`-th departure wait takes, apart from what the copy left, and what it leaves. -/
def leftF (c : Dev nD) (k : ℕ) : sProp 𝕄 := atPos EX (sendCell c (peer c k)) 0 ∅ 0
def backF (c : Dev nD) (k : ℕ) : sProp 𝕄 := iprop(rowsPts x c (peer c k) ∗ semVal (sendCell c (peer c k)) 0)

/-- The steps from the `n`-th on, -/
abbrev from' (n : ℕ) (Φ : ℕ → sProp 𝕄) : sProp 𝕄 := bigSep (Finset.Ico n 16) Φ
/-- and those before it. -/
abbrev upto (n : ℕ) (Φ : ℕ → sProp 𝕄) : sProp 𝕄 := bigSep (Finset.Ico 1 n) Φ

/-! ## The steps -/

/-- The `n`-th signal. -/
theorem wp_sig {α : Type} {Q : α → sProp 𝕄} {R : sProp 𝕄} {c : Dev nD} {O : CellTallies nD τ sig Unit} (n : ℕ) (h1 : 1 ≤ n) (h16 : n < 16) {dv : ℕ} {hlt : dv < nD} (hdv : dv = (c.val + n) % 16)
    {w : ℕ} (hw : w = 1) {k : PUnit → Prog (TpuEff nD τ sig (Elt F) Λ₀ .tc) α}
    (h : iprop(records x K ∗ Ow c (O + owedSig c (n + 1)) ∗ from' (n + 1) (sigF c) ∗ R) ⊢ WP c (k ⟨⟩) Q) :
    iprop(records x K ∗ Ow c (O + owedSig c n) ∗ from' n (sigF c) ∗ R)
      ⊢ WP c (.op (.semSignal ((⟨dv, hlt⟩ : Dev nD) : Thread nD τ) barS w) k) Q := by
  subst hdv; subst hw
  have hne : c ≠ peer c n := (peer_ne c n (Finset.mem_Ico.mpr ⟨h1, h16⟩)).symm
  unfold Ow from'
  rw [bigSep_Ico_succ_bot h16, owedSig_step c h16, ← add_assoc]
  unfold sigF
  iintro ⟨#HR, ⟨%W, HO⟩, ⟨⟨Ht, Hs⟩, Hrest⟩, HF⟩
  iapply (Rounds.wp_signal 𝒱₀ EX (sched x) (c : Thread nD τ) none (dst := (peer c n : Thread nD τ)) (κ := K (peer c n, none))
      (d := c) (by rw [duties_bar]; exact Finset.mem_erase.mpr ⟨hne, Finset.mem_univ _⟩) (amount_bar x (peer c n) c) () (O + owedSig c (n + 1)) rfl)
    $$ [HO Ht Hs]
  · isplitr; · iapply (inv_bar x K (peer c n)); iexact HR
    isplitl [HO]; · iexact HO
    isplitl [Ht]; · iexact Ht
    isplitl [Hs]
    · iapply (Entails.of_eq (payload_bar x (peer c n) c).symm); iexact Hs
    iapply (reached_bar x K (peer c n)); iexact HR
  iintro HO
  iapply h
  isplitr; · iexact HR
  isplitl [HO]; · unfold Ow; iexists W; iexact HO
  isplitl [Hrest]; · iexact Hrest
  iexact HF

/-- The barrier wait: every peer's slot for this device comes with it. -/
theorem wp_bar {α : Type} {Q : α → sProp 𝕄} {R : sProp 𝕄} {c : Dev nD} {w : ℕ} (hw : w = 15) {k : PUnit → Prog (TpuEff nD τ sig (Elt F) Λ₀ .tc) α}
    (h : iprop(records x K ∗ Ow c (owedSend c 1) ∗ from' 1 (gotF c) ∗ semVal (barCell c) 0 ∗ R) ⊢ WP c (k ⟨⟩) Q) :
    iprop(records x K ∗ Ow c (owedSend c 1) ∗ levAts L lv ∗ atPos EX (barCell c) 0 ∅ 0 ∗ cred (tallyAt (barCell c) () 15) ∗ R)
      ⊢ WP c (.op (.semWait barS w) k) Q := by
  subst hw
  unfold Ow
  iintro ⟨#HR, ⟨%W, HO⟩, #Hlev, Hat, Hc, HF⟩
  iapply (Rounds.wp_wait_rest_token 𝒱₀ EX (sched x) (c : Thread nD τ) none (κ := K (c, none))
      (wpE_semWait_eq 𝒱₀ (c : Thread nD τ) none Set.univ) (Set.mem_univ _) () (O := owedSend c 1) (W := W) (R := 0) (m := 0) (T := ∅)
      (by rw [expect_bar])) $$ [Hc HO Hat]
  · isplitr; · iapply (inv_bar x K c); iexact HR
    isplitl [Hc]; · iexact Hc
    isplitl [HO]; · iexact HO
    isplitr; · iapply (mayWait_bar c 1); iexact Hlev
    iexact Hat
  iintro ⟨HO, Hat, -, Hpay⟩
  ihave Hp := (Entails.of_eq (rest_bar x c)) $$ Hpay
  imod (Rounds.cell_close EX (sched x) (Set.mem_univ (K (c, none))) (fun h => h) (R := 0 + 1) (duties_later x (barCell c))) $$ [Hat] with Hz
  · isplitr; · iapply (inv_bar x K c); iexact HR
    iexact Hat
  iapply h
  isplitr; · iexact HR
  isplitl [HO]; · unfold Ow; iexists _; iexact HO
  isplitl [Hp]; · unfold gotF; iexact Hp
  isplitl [Hz]; · iexact Hz
  iexact HF

/-- The copy to a peer `p`: its own block `p` of rows into slot `c` of `p`'s gather buffer. -/
theorem wp_copy {α : Type} {Q : α → sProp 𝕄} {c p : Dev nD} (hp : p ≠ c) {O : CellTallies nD τ sig Unit} {W : Waits sig Unit}
    {hsc : (slotM c : Memref sig (Dev.tc p : Thread nD τ).2.kind .vmem S64x64 .f32).view.ref.isScScratch = false}
    {hsrc : (rowsM p).view.WordExact} {hdst : (slotM c : Memref sig (Dev.tc p : Thread nD τ).2.kind .vmem S64x64 .f32).view.WordExact}
    {hsem : DmaTarget.Typed .vmem (.dma (recvS c)) (.remote (Dev.tc p : Thread nD τ) (slotM c) (.dma (sendS p)) hsc)}
    {k : PUnit → Prog (TpuEff nD τ sig (Elt F) Λ₀ .tc) α} (f : Buf (Elt F) ((p : Thread nD τ).loc cc0_scratch0)) :
    iprop(cellInv EX (sched x) (K (c, some (false, p))) (sendCell c p) ∗ cellInv EX (sched x) (K (p, some (true, c))) (recvCell p c)
        ∗ rowsPts x c p ∗ slotPts p c f ∗ owes (c : Thread nD τ) (O + tallyAt (recvCell p c) () N) W
        ∗ dutyTok EX (sendCell c p) 0 p ∗ reached EX (sendCell c p) 0 ∗ dutyTok EX (recvCell p c) 0 c ∗ reached EX (recvCell p c) 0)
      ⊢ iprop(((cred (tallyAt (sendCell c p) () N) ∗ owes (c : Thread nD τ) O W) -∗ WP c (k ⟨⟩) Q)
          -∗ WP c (.op (.enqueueDma (rowsM p) (.remote (Dev.tc p : Thread nD τ) (slotM c) (.dma (sendS p)) hsc) (.dma (recvS c)) hsrc hdst hsem) k) Q) := by
  unfold rowsPts slotPts
  rw [← rowsM_set, ← slotM_set]
  have hN : (slotM c).view.amount (.dma (recvS c)) = N := credit_slot c
  have hp1 : (((rowsM p).view.loc (c : Thread nD τ)) ↦[(rowsM p).view.set]{fullShare} (x c) : sProp 𝕄) ⊢ (sched x).payload (sendCell c p) 0 p := by
    rw [payload_send]; unfold rowsPts; rw [rowsM_set]
  have hp2 : (((slotM c).view.loc (p : Thread nD τ)) ↦[(slotM c).view.set]{fullShare}
      ((slotM c).view.write (Elt F) f ((rowsM p).view.read (Elt F) (x c)) Finset.univ) : sProp 𝕄) ⊢ (sched x).payload (recvCell p c) 0 c := by
    rw [payload_recv]; unfold slotPts; rw [slotM_set]; exact Entails.of_eq (pointsTo_congr fun i hi => landed_eq x c p f i hi)
  exact Rounds.wp_send_pointsTo 𝒱₀ EX (sched x) (c : Thread nD τ) none (κ₁ := K (c, some (false, p))) (κ₂ := K (p, some (true, c)))
    (c' := (p : Thread nD τ)) (src := rowsM p) (dst := slotM c) (sS := .dma (sendS p)) (sem := .dma (recvS c))
    (r₁ := 0) (r₂ := 0) (d₁ := p) (d₂ := c) (fs := x c) (fd := f)
    (by rw [duties_send x c p hp]; exact Finset.mem_singleton_self _) (by rw [duties_recv x p c hp.symm]; exact Finset.mem_singleton_self _)
    () () N hN (amount_send x c p p) (amount_recv x p c c) O rfl (W := W) hp1 hp2

/-- The `n`-th copy. -/
theorem wp_send {α : Type} {Q : α → sProp 𝕄} {R : sProp 𝕄} {c : Dev nD} (n : ℕ) (h1 : 1 ≤ n) (h16 : n < 16) {dv : ℕ} {hlt : dv < nD} (hdv : dv = (c.val + n) % 16)
    {o3 o4 : Fin 1 → ℕ} {o5 : Fin 3 → ℕ} {o6 : Fin 2 → ℕ}
    {i3 : ∀ a, o3 a + S1.size a ≤ S16.size a} {i4 : ∀ a, o4 a + S1.size a ≤ S16.size a}
    {i5 : ∀ a, o5 a + S1x64x64.size a ≤ S16x64x64.size a} {i6 : ∀ a, o6 a + S64x64.size a ≤ S1024x64.size a}
    (h3 : o3 = ![(peer c n).val]) (h4 : o4 = ![c.val]) (h5 : o5 = ![c.val, 0, 0]) (h6 : o6 = ![64 * (peer c n).val, 0])
    {hsc : _} {hsrc : _} {hdst : _} {hsem : _}
    {k : PUnit → Prog (TpuEff nD τ sig (Elt F) Λ₀ .tc) α}
    (h : iprop(records x K ∗ Ow c (owedSend c (n + 1)) ∗ from' (n + 1) (sendF x c) ∗ upto (n + 1) (sentF c) ∗ R) ⊢ WP c (k ⟨⟩) Q) :
    iprop(records x K ∗ Ow c (owedSend c n) ∗ from' n (sendF x c) ∗ upto n (sentF c) ∗ R)
      ⊢ WP c (.op (.enqueueDma (xM.slice (Rect.unit (s := S1024x64) o6 S64x64.size i6) (fun _ => rfl))
          (.remote (Dev.tc (⟨dv, hlt⟩ : Dev nD))
            ((bM.slice (Rect.unit (s := S16x64x64) o5 S1x64x64.size i5) (fun _ => rfl)).squeeze S64x64 squeezes_S1x64x64_S64x64)
            (.dma ((cc0_scratch2.slice (Rect.unit (s := S16) o3 S1.size i3)).squeeze S_ squeezes_S1_S_).sem) hsc)
          (.dma ((cc0_scratch3.slice (Rect.unit (s := S16) o4 S1.size i4)).squeeze S_ squeezes_S1_S_).sem) hsrc hdst hsem) k) Q := by
  subst hdv; subst h3; subst h4; subst h5; subst h6
  have hne : peer c n ≠ c := peer_ne c n (Finset.mem_Ico.mpr ⟨h1, h16⟩)
  unfold Ow from' upto
  rw [bigSep_Ico_succ_bot h16, owedSend_step c h16]
  unfold Ow from' upto at h
  rw [bigSep_Ico_succ_top h1] at h
  unfold sendF gotF tokF
  iintro ⟨#HR, ⟨%W, HO⟩, ⟨⟨⟨%f, Hs⟩, ⟨Ht1, Ht2⟩, Hx⟩, Hrest⟩, Hdone, HF⟩
  iapply (wp_copy x K hne (O := owedSend c (n + 1)) f) $$ [HO Ht1 Ht2 Hx Hs]
  · isplitr; · iapply (inv_send x K c (peer c n)); iexact HR
    isplitr; · iapply (inv_recv x K (peer c n) c); iexact HR
    isplitl [Hx]; · iexact Hx
    isplitl [Hs]; · iexact Hs
    isplitl [HO]; · iexact HO
    isplitl [Ht1]; · iexact Ht1
    isplitr; · iapply (reached_send x K c (peer c n)); iexact HR
    isplitl [Ht2]; · iexact Ht2
    iapply (reached_recv x K (peer c n) c); iexact HR
  iintro ⟨Hc, HO⟩
  iapply h
  isplitr; · iexact HR
  isplitl [HO]; · iexists W; iexact HO
  isplitl [Hrest]; · iexact Hrest
  isplitr [HF]
  · isplitl [Hc]; · unfold sentF; iexact Hc
    iexact Hdone
  iexact HF

/-- The `n`-th receive wait: its slot, filled, and the cell closed. -/
theorem wp_recv {α : Type} {Q : α → sProp 𝕄} {R : sProp 𝕄} {c : Dev nD} (n : ℕ) (h1 : 1 ≤ n) (h16 : n < 16)
    {o7 : Fin 1 → ℕ} {o8 : Fin 3 → ℕ} {i7 : ∀ a, o7 a + S1.size a ≤ S16.size a} {i8 : ∀ a, o8 a + S1x64x64.size a ≤ S16x64x64.size a}
    (h7 : o7 = ![(orig c n).val]) (h8 : o8 = ![(orig c n).val, 0, 0])
    {src : Memref sig .tc .vmem S64x64 .f32} {hsrc : _} {hdst : _} {k : PUnit → Prog (TpuEff nD τ sig (Elt F) Λ₀ .tc) α}
    (h : iprop(records x K ∗ Ow c 0 ∗ from' (n + 1) (recvF c) ∗ upto (n + 1) (rcvdF x c) ∗ R) ⊢ WP c (k ⟨⟩) Q) :
    iprop(records x K ∗ Ow c 0 ∗ from' n (recvF c) ∗ upto n (rcvdF x c) ∗ R)
      ⊢ WP c (.op (.waitDma2 ((cc0_scratch3.slice (Rect.unit (s := S16) o7 S1.size i7)).squeeze S_ squeezes_S1_S_).sem src
          ((bM.slice (Rect.unit (s := S16x64x64) o8 S1x64x64.size i8) (fun _ => rfl)).squeeze S64x64 squeezes_S1x64x64_S64x64) hsrc hdst) k) Q := by
  subst h7; subst h8
  have hne : orig c n ≠ c := orig_ne c n (Finset.mem_Ico.mpr ⟨h1, h16⟩)
  have hN : 0 + (slotM (orig c n)).view.dmaCredit = (sched x).expect (recvCell c (orig c n)) 0 := by
    rw [expect_recv x c _ hne, Nat.zero_add]
  unfold Ow from' upto
  rw [bigSep_Ico_succ_bot h16]
  unfold Ow from' upto at h
  rw [bigSep_Ico_succ_top h1] at h
  unfold recvF
  iintro ⟨#HR, ⟨%W, HO⟩, ⟨⟨Hat, Hc⟩, Hrest⟩, Hdone, HF⟩
  iapply (Rounds.wp_wait_rest_token 𝒱₀ EX (sched x) (c : Thread nD τ) none (κ := K (c, some (true, orig c n)))
      (wpE_waitDma2_eq 𝒱₀ (c : Thread nD τ) none Set.univ) (Set.mem_univ _) () (O := 0) (W := W) (R := 0) (m := 0) (T := ∅) hN) $$ [Hc HO Hat]
  · isplitr; · iapply (inv_recv x K c (orig c n)); iexact HR
    isplitl [Hc]; · iexact Hc
    isplitl [HO]; · iexact HO
    isplitr; · rw [MayWait_zero]; iempintro
    iexact Hat
  iintro ⟨HO, Hat, -, Hpay⟩
  ihave Hp := (Entails.of_eq (rest_recv x c (orig c n) hne)) $$ Hpay
  imod (Rounds.cell_close EX (sched x) (Set.mem_univ (K (c, some (true, orig c n)))) (fun h => h) (R := 0 + 1)
    (duties_later x (recvCell c (orig c n)))) $$ [Hat] with Hz
  · isplitr; · iapply (inv_recv x K c (orig c n)); iexact HR
    iexact Hat
  iapply h
  isplitr; · iexact HR
  isplitl [HO]; · iexists _; iexact HO
  isplitl [Hrest]; · unfold recvF; iexact Hrest
  isplitr [HF]
  · isplitl [Hp Hz]
    · unfold rcvdF; isplitl [Hp] <;> iassumption
    iexact Hdone
  iexact HF

/-- What the `n`-th departure wait takes. -/
def waitF (c : Dev nD) (k : ℕ) : sProp 𝕄 := iprop(leftF c k ∗ sentF c k)

/-- The `n`-th departure wait: the rows that the copy read, and the cell closed. -/
theorem wp_left {α : Type} {Q : α → sProp 𝕄} {R : sProp 𝕄} {c : Dev nD} (n : ℕ) (h1 : 1 ≤ n) (h16 : n < 16)
    {o3 : Fin 1 → ℕ} {o6 : Fin 2 → ℕ} {i3 : ∀ a, o3 a + S1.size a ≤ S16.size a} {i6 : ∀ a, o6 a + S64x64.size a ≤ S1024x64.size a}
    (h3 : o3 = ![(peer c n).val]) (h6 : o6 = ![64 * (peer c n).val, 0])
    {src : Memref sig .tc .vmem S64x64 .f32} {hsrc : _} {hdst : _} {k : PUnit → Prog (TpuEff nD τ sig (Elt F) Λ₀ .tc) α}
    (h : iprop(records x K ∗ Ow c 0 ∗ from' (n + 1) (waitF c) ∗ upto (n + 1) (backF x c) ∗ R) ⊢ WP c (k ⟨⟩) Q) :
    iprop(records x K ∗ Ow c 0 ∗ from' n (waitF c) ∗ upto n (backF x c) ∗ R)
      ⊢ WP c (.op (.waitDma2 ((cc0_scratch2.slice (Rect.unit (s := S16) o3 S1.size i3)).squeeze S_ squeezes_S1_S_).sem src
          (xM.slice (Rect.unit (s := S1024x64) o6 S64x64.size i6) (fun _ => rfl)) hsrc hdst) k) Q := by
  subst h3; subst h6
  have hne : peer c n ≠ c := peer_ne c n (Finset.mem_Ico.mpr ⟨h1, h16⟩)
  have hN : 0 + (rowsM (peer c n)).view.dmaCredit = (sched x).expect (sendCell c (peer c n)) 0 := by
    rw [expect_send x c _ hne, Nat.zero_add]
  unfold Ow from' upto
  rw [bigSep_Ico_succ_bot h16]
  unfold Ow from' upto at h
  rw [bigSep_Ico_succ_top h1] at h
  unfold waitF leftF sentF
  iintro ⟨#HR, ⟨%W, HO⟩, ⟨⟨Hat, Hc⟩, Hrest⟩, Hdone, HF⟩
  iapply (Rounds.wp_wait_rest_token 𝒱₀ EX (sched x) (c : Thread nD τ) none (κ := K (c, some (false, peer c n)))
      (wpE_waitDma2_eq 𝒱₀ (c : Thread nD τ) none Set.univ) (Set.mem_univ _) () (O := 0) (W := W) (R := 0) (m := 0) (T := ∅) hN) $$ [Hc HO Hat]
  · isplitr; · iapply (inv_send x K c (peer c n)); iexact HR
    isplitl [Hc]; · iexact Hc
    isplitl [HO]; · iexact HO
    isplitr; · rw [MayWait_zero]; iempintro
    iexact Hat
  iintro ⟨HO, Hat, -, Hpay⟩
  ihave Hp := (Entails.of_eq (rest_send x c (peer c n) hne)) $$ Hpay
  imod (Rounds.cell_close EX (sched x) (Set.mem_univ (K (c, some (false, peer c n)))) (fun h => h) (R := 0 + 1)
    (duties_later x (sendCell c (peer c n)))) $$ [Hat] with Hz
  · isplitr; · iapply (inv_send x K c (peer c n)); iexact HR
    iexact Hat
  iapply h
  isplitr; · iexact HR
  isplitl [HO]; · iexists _; iexact HO
  isplitl [Hrest]; · unfold waitF leftF sentF; iexact Hrest
  isplitr [HF]
  · isplitl [Hp Hz]
    · unfold backF; isplitl [Hp] <;> iassumption
    iexact Hdone
  iexact HF

/-- A cell of the device's own name closes as it was. -/
theorem close_self {c : Dev nD} (b : Bool) :
    iprop(records x K ∗ atPos EX (cell c (some (b, c))) 0 ∅ 0) ⊢ (|={Set.univ}=> semVal (cell c (some (b, c))) 0 : sProp 𝕄) :=
  (sep_mono_left (records_inv x K c (some (b, c)))).trans
    (Rounds.cell_close EX (sched x) (Set.mem_univ (K (c, some (b, c)))) (fun h => h) (R := 0) (duties_self x b c))

/-! ## The device's own slot -/

/-- Storing the device's own block of rows in its own slot leaves there what the gather buffer is to hold. -/
theorem own_eq (c : Dev nD) (f : Vec F S16x64x64 .f32) {o1 : Fin 2 → ℕ} {o2 : Fin 3 → ℕ}
    {i1 : ∀ a, o1 a + S64x64.size a ≤ S1024x64.size a} {i2 : ∀ a, o2 a + S1x64x64.size a ≤ S16x64x64.size a}
    (h1 : o1 = ![64 * c.val, 0]) (h2 : o2 = ![c.val, 0, 0]) (i : S16x64x64.Idx) (hi : i ∈ slotSet c) :
    (bM.access (Rect.unit (s := S16x64x64) o2 S1x64x64.size i2)).write (Elt F) f
      (k0_pay2 ((xM.access (Rect.unit (s := S1024x64) o1 S64x64.size i1)).read (Elt F) (x c))) Finset.univ i = gathered x c i := by
  subst h1; subst h2
  obtain ⟨a, b, rfl⟩ : ∃ a b, i = ix3 c a b := ⟨_, _, eq_of_slotSet hi⟩
  have he : (bM.access (Rect.unit (s := S16x64x64) ![c.val, 0, 0] S1x64x64.size i2)).emb (ix3 (0 : Fin 1) a b) = (ix3 c a b : S16x64x64.Idx) := by
    show (Rect.unit (s := S16x64x64) ![c.val, 0, 0] S1x64x64.size i2).emb (ix3 (0 : Fin 1) a b) = _
    funext ax; apply Fin.ext; rw [Rect.emb_apply]
    match ax with
    | ⟨0, _⟩ => exact (show c.val + 1 * 0 = c.val by omega)
    | ⟨1, _⟩ => exact (show 0 + 1 * a.val = a.val by omega)
    | ⟨2, _⟩ => exact (show 0 + 1 * b.val = b.val by omega)
  have hw : ∀ (v : Vec F S1x64x64 .f32), (bM.access (Rect.unit (s := S16x64x64) ![c.val, 0, 0] S1x64x64.size i2)).write (Elt F) f v Finset.univ (ix3 c a b)
      = v (ix3 (0 : Fin 1) a b) := fun v => by
    rw [← he]; exact View.write_emb_of_mem _ _ (Finset.mem_univ _)
  have hp : ∀ (v : Vec F S64x64 .f32), k0_pay2 v (ix3 (0 : Fin 1) a b) = v (ix2 a b) := fun v => by
    unfold k0_pay2; rw [shapeCast_self]; exact shapeCast_ab_1ab_apply v _ 0 a b
  have hr : ∀ (v : Vec F S1024x64 .f32), (xM.access (Rect.unit (s := S1024x64) ![64 * c.val, 0] S64x64.size i1)).read (Elt F) v (ix2 a b)
      = v ((rowsM c).view.emb (ix2 a b)) := fun v => rfl
  rw [hw, hp, hr, rows_emb]
  rfl

end State

end Cert.Exchange

end
-- ==== Proof.Body.lean ====
/-
# The kernel's body, part by part

Each part of the printed body is a chain of the exchange's steps. `R` is what the part leaves alone.
-/
module

public import proofs.«01_k».proof.Proof.Steps

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

/-! ## The printed offsets, by peer and by origin -/

theorem off3_at (c : Dev nD) (r : Fin 15) : k0_off3 c (BitVec.ofNat 32 (1 + r.val)) = ![(peer c (r.val + 1)).val] := k0_off3_eq c r
theorem off6_at (c : Dev nD) (r : Fin 15) : k0_off6 c (BitVec.ofNat 32 (1 + r.val)) = ![64 * (peer c (r.val + 1)).val, 0] := k0_off6_eq c r
theorem orig_at (c : Dev nD) (r : Fin 15) : (orig c (r.val + 1)).val = ((c.val + 15) - r.val) % 16 := by
  have := r.isLt
  show (c.val + (16 - (r.val + 1))) % 16 = _
  congr 1; omega
theorem off7_at (c : Dev nD) (r : Fin 15) : k0_off7 c (BitVec.ofNat 32 (1 + r.val)) = ![(orig c (r.val + 1)).val] := by
  rw [k0_off7_eq, orig_at]
theorem off8_at (c : Dev nD) (r : Fin 15) : k0_off8 c (BitVec.ofNat 32 (1 + r.val)) = ![(orig c (r.val + 1)).val, 0, 0] := by
  rw [k0_off8_eq, orig_at]

/-- The device's own slot is what the kernel's access of it names. -/
theorem own_sub (c : Dev nD) {o2 : Fin 3 → ℕ} {i2 : ∀ a, o2 a + S1x64x64.size a ≤ S16x64x64.size a} (h2 : o2 = ![c.val, 0, 0]) :
    (bM.access (Rect.unit (s := S16x64x64) o2 S1x64x64.size i2)).set ⊆ slotSet c := by
  subst h2; exact (View.set_slice_whole _ _).subset
theorem own_done (x : Dev nD → Vec F S1024x64 .f32) (c : Dev nD) {o1 : Fin 2 → ℕ} {o2 : Fin 3 → ℕ}
    {i1 : ∀ a, o1 a + S64x64.size a ≤ S1024x64.size a} {i2 : ∀ a, o2 a + S1x64x64.size a ≤ S16x64x64.size a}
    (h1 : o1 = ![64 * c.val, 0]) (h2 : o2 = ![c.val, 0, 0]) {f : Buf (Elt F) ((c : Thread nD τ).loc cc0_scratch0)} :
    (((c : Thread nD τ).loc cc0_scratch0) ↦[slotSet c]{fullShare} ((bM.access (Rect.unit (s := S16x64x64) o2 S1x64x64.size i2)).write (Elt F) f
      (k0_pay2 ((xM.access (Rect.unit (s := S1024x64) o1 S64x64.size i1)).read (Elt F) (x c))) Finset.univ) : sProp 𝕄)
      ⊢ slotPts c c (gathered x c) :=
  Entails.of_eq (pointsTo_congr fun i hi => own_eq x c f h1 h2 i hi)

/-- A part before the rest of the body. -/
theorem wp_seq {α β : Type} {c : Dev nD} {p : Prog (TpuEff nD τ sig (Elt F) Λ₀ .tc) α} {k : α → Prog (TpuEff nD τ sig (Elt F) Λ₀ .tc) β}
    {P : sProp 𝕄} {Q : β → sProp 𝕄} (h : P ⊢ WP c p fun a => WP c (k a) Q) : P ⊢ WP c (p >>= k) Q :=
  h.trans (Entails.of_eq (wp_bind _ _ _ p k Q).symm)
/-- A part's end. -/
theorem wp_end {α : Type} {c : Dev nD} {a : α} {P : sProp 𝕄} {Q : α → sProp 𝕄} (h : P ⊢ Q a) : P ⊢ WP c (.ret a) Q :=
  h.trans (show Q a ⊢ iprop(|={Set.univ}=> Q a) from fupd_intro)

theorem own_sub' (c : Dev nD) {o2 : Fin 3 → ℕ} {i2 : ∀ a, o2 a + S1x64x64.size a ≤ S16x64x64.size a} (h2 : o2 = ![c.val, 0, 0]) :
    bM.view.setOn (Rect.unit (s := S16x64x64) o2 S1x64x64.size i2).toLoadRect.set ⊆ slotSet c := by
  have h := own_sub c h2 (i2 := i2)
  rwa [View.set_slice] at h

/-- A load from elements held, -/
theorem load_step {c : Dev nD} {α : Type} {s : Shape} {e : EltTy} {m : Memref sig .tc .vmem s e} {r : LoadRect s} {hl : m.view.LoadsAt r}
    {k : (r.shape.Idx → Elt F e) → Prog (TpuEff nD τ sig (Elt F) Λ₀ .tc) α} {S : Finset (Idx (m.view.loc (c : Thread nD τ)))} {q : PosShare TreeShare}
    {f : Buf (Elt F) (m.view.loc (c : Thread nD τ))} {P R : sProp 𝕄} {Q : α → sProp 𝕄} (hP : P = iprop(m.view.loc (c : Thread nD τ) ↦[S]{q} f))
    (hS : m.view.setOn r.set ⊆ S) (h : iprop(P ∗ R) ⊢ WP c (k (m.view.readAt (Elt F) r f)) Q) : iprop(P ∗ R) ⊢ WP c (.op (.load m r hl) k) Q := by
  subst hP
  iintro ⟨HP, HR⟩
  iapply (wp_load 𝒱₀ (c : Thread nD τ) none Set.univ (m := m) hS) $$ HP; iintro HP
  iapply h; isplitl [HP] <;> iassumption
/-- and a store to elements held. -/
theorem store_step {c : Dev nD} {α : Type} {s : Shape} {e : EltTy} {m : Memref sig .tc .vmem s e} {r : Rect s} {w : r.shape.Idx → Elt F e}
    {hx : (m.access r : View sig .tc _ _ _).Stores Finset.univ} {hm : Finset.univ = Finset.univ ∨ ∀ a, r.stride a = 1}
    {k : PUnit → Prog (TpuEff nD τ sig (Elt F) Λ₀ .tc) α} {S : Finset (Idx (m.view.loc (c : Thread nD τ)))}
    {f : Buf (Elt F) (m.view.loc (c : Thread nD τ))} {P R : sProp 𝕄} {Q : α → sProp 𝕄}
    (hP : P = iprop(m.view.loc (c : Thread nD τ) ↦[S]{fullShare} f))
    (hS : (m.access r : View sig .tc _ _ _).setOn Finset.univ ⊆ S)
    (h : iprop((m.view.loc (c : Thread nD τ) ↦[S]{fullShare} ((m.access r : View sig .tc _ _ _).write (Elt F) f w Finset.univ)) ∗ R) ⊢ WP c (k ⟨⟩) Q) :
    iprop(P ∗ R) ⊢ WP c (.op (.store m r w Finset.univ hx hm) k) Q := by
  subst hP
  iintro ⟨HP, HR⟩
  iapply (wp_store 𝒱₀ (c : Thread nD τ) none Set.univ (m := m) (Mk := Finset.univ) hS) $$ HP; iintro HP
  iapply h; isplitl [HP] <;> iassumption

/-! ## Changes of phase -/

section Phases

variable (x : Dev nD → Vec F S1024x64 .f32)

/-- `x` held whole on device `c`; -/
def xPts (c : Dev nD) : sProp 𝕄 := ((c : Thread nD τ).loc cc0_stg0_0) ↦{fullShare} (x c : Buf (Elt F) ((c : Thread nD τ).loc cc0_stg0_0))
/-- the gather buffer held whole. -/
def bPts (c : Dev nD) (f : Buf (Elt F) ((c : Thread nD τ).loc cc0_scratch0)) : sProp 𝕄 := ((c : Thread nD τ).loc cc0_scratch0) ↦{fullShare} f

/-- A conjunction over all devices is the device's own part and one part per peer, -/
theorem bigSep_all_peers (c : Dev nD) (Φ : Dev nD → sProp 𝕄) : bigSep Finset.univ Φ = iprop(Φ c ∗ from' 1 fun k => Φ (peer c k)) := by
  rw [bigSep_erase (Finset.mem_univ c), bigSep_peers]; rfl
/-- or one per origin. -/
theorem bigSep_all_origs (c : Dev nD) (Φ : Dev nD → sProp 𝕄) : bigSep Finset.univ Φ = iprop(Φ c ∗ from' 1 fun k => Φ (orig c k)) := by
  rw [bigSep_erase (Finset.mem_univ c), bigSep_origs]; rfl

/-- `x` by blocks of rows: the device's own and one per peer. -/
theorem xPts_split (c : Dev nD) : (xPts x c : sProp 𝕄) = iprop(rowsPts x c c ∗ from' 1 fun k => rowsPts x c (peer c k)) :=
  (rows_split x c).trans (bigSep_all_peers c _)
/-- The gather buffer by slots: the device's own and one per origin, -/
theorem bPts_origs (c : Dev nD) (f) : (bPts c f : sProp 𝕄) = iprop(slotPts c c f ∗ from' 1 fun k => slotPts c (orig c k) f) :=
  (slots_split c f).trans (bigSep_all_origs c _)
/-- or one per peer. -/
theorem bPts_peers (c : Dev nD) (f) : (bPts c f : sProp 𝕄) = iprop(slotPts c c f ∗ from' 1 fun k => slotPts c (peer c k) f) :=
  (slots_split c f).trans (bigSep_all_peers c _)

/-- `w` held whole on device `c`. -/
def wPts (c : Dev nD) (w : Vec F S1024x1024 .f32) : sProp 𝕄 := ((c : Thread nD τ).loc cc0_stg1_0) ↦{fullShare} (w : Buf (Elt F) ((c : Thread nD τ).loc cc0_stg1_0))

theorem hz2 : (![0, 0] : Fin 2 → ℕ) = fun _ => 0 := funext fun a => match a with
  | ⟨0, _⟩ => rfl
  | ⟨1, _⟩ => rfl
theorem hz3 : (![0, 0, 0] : Fin 3 → ℕ) = fun _ => 0 := funext fun a => match a with
  | ⟨0, _⟩ => rfl
  | ⟨1, _⟩ => rfl
  | ⟨2, _⟩ => rfl
/-- A whole load reads what the buffer holds, -/
theorem read_b (f : Vec F S16x64x64 .f32) :
    bM.view.readAt (Elt F) (Rect.unit (s := S16x64x64) ![0, 0, 0] S16x64x64.size inb_S16x64x64_S16x64x64_0_0_0).toLoadRect f = f :=
  Memref.readAt_unit_zero (Elt F) cc0_scratch0 hz3 _ f
theorem read_w (f : Vec F S1024x1024 .f32) :
    wM.view.readAt (Elt F) (Rect.unit (s := S1024x1024) ![0, 0] S1024x1024.size inb_S1024x1024_S1024x1024_0_0).toLoadRect f = f :=
  Memref.readAt_unit_zero (Elt F) cc0_stg1_0 hz2 _ f
/-- and a whole store leaves what it stores. -/
theorem write_o (f w : Vec F S64x1024 .f32) :
    (oM.access (Rect.unit (s := S64x1024) ![0, 0] S64x1024.size inb_S64x1024_S64x1024_0_0)).write (Elt F) f w Finset.univ = w :=
  Memref.write_access_unit_zero_univ (Elt F) cc0_stg2_0 hz2 _ f w

theorem Ow_sig_end (c : Dev nD) : Ow (F := F) c (owedSend c 1 + owedSig c 16) = Ow c (owedSend c 1) := by rw [owedSig_end, add_zero]
theorem Ow_send_end (c : Dev nD) : Ow (F := F) c (owedSend c 16) = Ow c 0 := by rw [owedSend_end]

end Phases

section Parts

variable (x : Dev nD → Vec F S1024x64 .f32) (K : Dev nD × Which → ℕ)
  {hx : xM.IsWhole} {hw : wM.IsWhole} {ho : oM.IsWhole} {hb : bM.IsWhole} {aM : Memref sig .tc .vmem S64x1024 .f32} {ha : aM.IsWhole}

/-- Signals 1 to 5. -/
theorem part1 {c : Dev nD} {R : sProp 𝕄} {Q : (Σ' (d0 : Dev nD) (v2 : BitVec 32) (v3 : Sems sig S_) (v24 : BitVec 32), BitVec 32) → sProp 𝕄}
    (h : ∀ v2 v24 w, iprop(records x K ∗ Ow c (owedSend c 1 + owedSig c 6) ∗ from' 6 (sigF c) ∗ R) ⊢ Q ⟨c, v2, SemArray.scalar (sig.barrier 0 rfl), v24, w⟩) :
    iprop(records x K ∗ Ow c (owedSend c 1 + owedSig c 1) ∗ from' 1 (sigF c) ∗ R)
      ⊢ WP c (k0_part1 (F := F) xM hx wM hw oM ho bM hb aM ha cc0_scratch2 cc0_scratch3 cc0_scratch4 cc0_scratch5) Q := by
  rw [k0_part1_eq_skeleton]; unfold k0_part1_skel
  simp only [semSignalWord, semWaitWord, Prog.lift, Prog.bind_op, Prog.bind_ret, Prog.pure_eq_ret, wp_deviceId]
  refine wp_sig x K 1 (by decide) (by decide) (k0_dev1_eq c) (by decide) ?_
  refine wp_sig x K 2 (by decide) (by decide) (k0_dev2_eq c) (by decide) ?_
  refine wp_sig x K 3 (by decide) (by decide) (k0_dev3_eq c) (by decide) ?_
  refine wp_sig x K 4 (by decide) (by decide) (k0_dev4_eq c) (by decide) ?_
  refine wp_sig x K 5 (by decide) (by decide) (k0_dev5_eq c) (by decide) ?_
  exact wp_end (h _ _ _)

/-- Signals 6 to 11. -/
theorem part2 {c : Dev nD} {R : sProp 𝕄} {Q : (Σ' (v48 : BitVec 32), BitVec 32) → sProp 𝕄} {v2 v24 w : BitVec 32}
    (h : ∀ v w, iprop(records x K ∗ Ow c (owedSend c 1 + owedSig c 12) ∗ from' 12 (sigF c) ∗ R) ⊢ Q ⟨v, w⟩) :
    iprop(records x K ∗ Ow c (owedSend c 1 + owedSig c 6) ∗ from' 6 (sigF c) ∗ R)
      ⊢ WP c (k0_part2 (F := F) xM hx wM hw oM ho bM hb aM ha cc0_scratch2 cc0_scratch3 cc0_scratch4 cc0_scratch5 c v2 (SemArray.scalar (sig.barrier 0 rfl)) v24 w) Q := by
  rw [k0_part2_eq_skeleton]; unfold k0_part2_skel
  simp only [semSignalWord, semWaitWord, Prog.lift, Prog.bind_op, Prog.bind_ret, Prog.pure_eq_ret, wp_deviceId]
  refine wp_sig x K 6 (by decide) (by decide) (k0_dev6_eq c) (by decide) ?_
  refine wp_sig x K 7 (by decide) (by decide) (k0_dev7_eq c) (by decide) ?_
  refine wp_sig x K 8 (by decide) (by decide) (k0_dev8_eq c) (by decide) ?_
  refine wp_sig x K 9 (by decide) (by decide) (k0_dev9_eq c) (by decide) ?_
  refine wp_sig x K 10 (by decide) (by decide) (k0_dev10_eq c) (by decide) ?_
  refine wp_sig x K 11 (by decide) (by decide) (k0_dev11_eq c) (by decide) ?_
  exact wp_end (h _ _)

/-- Signals 12 to 15, the barrier wait, and the device's own block of rows stored in its own slot. -/
theorem part3 {c : Dev nD} {R : sProp 𝕄} {Q : (Σ' (v73 : BitVec 32), BitVec 32) → sProp 𝕄} {v2 v48 w : BitVec 32} {f : Buf (Elt F) ((c : Thread nD τ).loc cc0_scratch0)}
    (h : ∀ v w, iprop(records x K ∗ Ow c (owedSend c 1) ∗ from' 1 (gotF c) ∗ semVal (barCell c) 0 ∗ xPts x c ∗ slotPts c c (gathered x c) ∗ R) ⊢ Q ⟨v, w⟩) :
    iprop(records x K ∗ Ow c (owedSend c 1 + owedSig c 12) ∗ from' 12 (sigF c)
        ∗ levAts L lv ∗ atPos EX (barCell c) 0 ∅ 0 ∗ cred (tallyAt (barCell c) () 15) ∗ xPts x c ∗ slotPts c c f ∗ R)
      ⊢ WP c (k0_part3 (F := F) xM hx wM hw oM ho bM hb aM ha cc0_scratch2 cc0_scratch3 cc0_scratch4 cc0_scratch5 c v2 (SemArray.scalar (sig.barrier 0 rfl)) v48 w) Q := by
  rw [k0_part3_eq_skeleton]; unfold k0_part3_skel
  simp only [semSignalWord, semWaitWord, Prog.lift, Prog.bind_op, Prog.bind_ret, Prog.pure_eq_ret, wp_deviceId]
  refine wp_sig x K 12 (by decide) (by decide) (k0_dev12_eq c) (by decide) ?_
  refine wp_sig x K 13 (by decide) (by decide) (k0_dev13_eq c) (by decide) ?_
  refine wp_sig x K 14 (by decide) (by decide) (k0_dev14_eq c) (by decide) ?_
  refine wp_sig x K 15 (by decide) (by decide) (k0_dev15_eq c) (by decide) ?_
  refine BIBase.Entails.trans (show _ ⊢ iprop(records x K ∗ Ow c (owedSend c 1) ∗ levAts L lv ∗ atPos EX (barCell c) 0 ∅ 0 ∗ cred (tallyAt (barCell c) () 15)
    ∗ xPts x c ∗ slotPts c c f ∗ R) from ?_) (wp_bar x K (by decide) ?_)
  · rw [show (15 + 1 : ℕ) = 16 from rfl, Ow_sig_end]
    iintro ⟨HR, HO, -, HF⟩
    isplitl [HR]; · iexact HR
    isplitl [HO] <;> iassumption
  refine BIBase.Entails.trans (show _ ⊢ iprop(xPts x c ∗ slotPts c c f ∗ records x K ∗ Ow c (owedSend c 1) ∗ from' 1 (gotF c) ∗ semVal (barCell c) 0 ∗ R) from ?_) ?_
  · iintro ⟨HR, HO, Hg, Hz, Hx, Hs, HF⟩
    isplitl [Hx]; · iexact Hx
    isplitl [Hs]; · iexact Hs
    isplitl [HR]; · iexact HR
    isplitl [HO]; · iexact HO
    isplitl [Hg]; · iexact Hg
    isplitl [Hz] <;> iassumption
  refine load_step (m := xM) (S := Finset.univ) (q := fullShare) (f := x c) rfl (Finset.subset_univ _) (BIBase.Entails.trans (show _ ⊢ iprop(slotPts c c f ∗ xPts x c
    ∗ records x K ∗ Ow c (owedSend c 1) ∗ from' 1 (gotF c) ∗ semVal (barCell c) 0 ∗ R) from ?_) ?_)
  · iintro ⟨Hx, Hs, HF⟩
    isplitl [Hs]; · iexact Hs
    isplitl [Hx] <;> iassumption
  refine load_step (m := bM) (S := slotSet c) (q := fullShare) (f := f) rfl (own_sub' c (k0_off2_eq c)) ?_
  refine store_step (m := bM) (S := slotSet c) (f := f) rfl (own_sub c (k0_off2_eq c)) (wp_end (BIBase.Entails.trans ?_ (h _ _)))
  iintro ⟨Hs, Hx, HR, HO, Hg, Hz, HF⟩
  isplitl [HR]; · iexact HR
  isplitl [HO]; · iexact HO
  isplitl [Hg]; · iexact Hg
  isplitl [Hz]; · iexact Hz
  isplitl [Hx]; · iexact Hx
  isplitl [Hs]
  · iapply (own_done x c (k0_off1_eq c) (k0_off2_eq c)); iexact Hs
  iexact HF

/-- Copies 1 to 3. -/
theorem part4 {c : Dev nD} {R : sProp 𝕄} {Q : BitVec 32 → sProp 𝕄} {v2 v73 w : BitVec 32}
    (h : ∀ v, iprop(records x K ∗ Ow c (owedSend c 4) ∗ from' 4 (sendF x c) ∗ upto 4 (sentF c) ∗ R) ⊢ Q v) :
    iprop(records x K ∗ Ow c (owedSend c 1) ∗ from' 1 (sendF x c) ∗ upto 1 (sentF c) ∗ R)
      ⊢ WP c (k0_part4 (F := F) xM hx wM hw oM ho bM hb aM ha cc0_scratch2 cc0_scratch3 cc0_scratch4 cc0_scratch5 c v2 v73 w) Q := by
  rw [k0_part4_eq_skeleton]; unfold k0_part4_skel
  simp only [semSignalWord, semWaitWord, Prog.lift, Prog.bind_op, Prog.bind_ret, Prog.pure_eq_ret, wp_deviceId]
  refine wp_send x K 1 (by decide) (by decide) (k0_dev16_eq c) (off3_at c 0) (k0_off4_eq c) (k0_off5_eq c) (off6_at c 0) ?_
  refine wp_send x K 2 (by decide) (by decide) (k0_dev17_eq c) (off3_at c 1) (k0_off4_eq c) (k0_off5_eq c) (off6_at c 1) ?_
  refine wp_send x K 3 (by decide) (by decide) (k0_dev18_eq c) (off3_at c 2) (k0_off4_eq c) (k0_off5_eq c) (off6_at c 2) ?_
  exact wp_end (h _)

/-- Copies 4 to 6. -/
theorem part5 {c : Dev nD} {R : sProp 𝕄} {Q : BitVec 32 → sProp 𝕄} {v2 w : BitVec 32}
    (h : ∀ v, iprop(records x K ∗ Ow c (owedSend c 7) ∗ from' 7 (sendF x c) ∗ upto 7 (sentF c) ∗ R) ⊢ Q v) :
    iprop(records x K ∗ Ow c (owedSend c 4) ∗ from' 4 (sendF x c) ∗ upto 4 (sentF c) ∗ R)
      ⊢ WP c (k0_part5 (F := F) xM hx wM hw oM ho bM hb aM ha cc0_scratch2 cc0_scratch3 cc0_scratch4 cc0_scratch5 c v2 w) Q := by
  rw [k0_part5_eq_skeleton]; unfold k0_part5_skel
  simp only [semSignalWord, semWaitWord, Prog.lift, Prog.bind_op, Prog.bind_ret, Prog.pure_eq_ret, wp_deviceId]
  refine wp_send x K 4 (by decide) (by decide) (k0_dev19_eq c) (off3_at c 3) (k0_off4_eq c) (k0_off5_eq c) (off6_at c 3) ?_
  refine wp_send x K 5 (by decide) (by decide) (k0_dev20_eq c) (off3_at c 4) (k0_off4_eq c) (k0_off5_eq c) (off6_at c 4) ?_
  refine wp_send x K 6 (by decide) (by decide) (k0_dev21_eq c) (off3_at c 5) (k0_off4_eq c) (k0_off5_eq c) (off6_at c 5) ?_
  exact wp_end (h _)

/-- Copies 7 and 8. -/
theorem part6 {c : Dev nD} {R : sProp 𝕄} {Q : PUnit → sProp 𝕄} {v2 w : BitVec 32}
    (h : iprop(records x K ∗ Ow c (owedSend c 9) ∗ from' 9 (sendF x c) ∗ upto 9 (sentF c) ∗ R) ⊢ Q ⟨⟩) :
    iprop(records x K ∗ Ow c (owedSend c 7) ∗ from' 7 (sendF x c) ∗ upto 7 (sentF c) ∗ R)
      ⊢ WP c (k0_part6 (F := F) xM hx wM hw oM ho bM hb aM ha cc0_scratch2 cc0_scratch3 cc0_scratch4 cc0_scratch5 c v2 w) Q := by
  rw [k0_part6_eq_skeleton]; unfold k0_part6_skel
  simp only [semSignalWord, semWaitWord, Prog.lift, Prog.bind_op, Prog.bind_ret, Prog.pure_eq_ret, wp_deviceId]
  refine wp_send x K 7 (by decide) (by decide) (k0_dev22_eq c) (off3_at c 6) (k0_off4_eq c) (k0_off5_eq c) (off6_at c 6) ?_
  refine wp_send x K 8 (by decide) (by decide) (k0_dev23_eq c) (off3_at c 7) (k0_off4_eq c) (k0_off5_eq c) (off6_at c 7) ?_
  exact wp_end h

/-- Copies 9 to 11. -/
theorem part7 {c : Dev nD} {R : sProp 𝕄} {Q : PUnit → sProp 𝕄} {v2 : BitVec 32}
    (h : iprop(records x K ∗ Ow c (owedSend c 12) ∗ from' 12 (sendF x c) ∗ upto 12 (sentF c) ∗ R) ⊢ Q ⟨⟩) :
    iprop(records x K ∗ Ow c (owedSend c 9) ∗ from' 9 (sendF x c) ∗ upto 9 (sentF c) ∗ R)
      ⊢ WP c (k0_part7 (F := F) xM hx wM hw oM ho bM hb aM ha cc0_scratch2 cc0_scratch3 cc0_scratch4 cc0_scratch5 c v2) Q := by
  rw [k0_part7_eq_skeleton]; unfold k0_part7_skel
  simp only [semSignalWord, semWaitWord, Prog.lift, Prog.bind_op, Prog.bind_ret, Prog.pure_eq_ret, wp_deviceId]
  refine wp_send x K 9 (by decide) (by decide) (k0_dev24_eq c) (off3_at c 8) (k0_off4_eq c) (k0_off5_eq c) (off6_at c 8) ?_
  refine wp_send x K 10 (by decide) (by decide) (k0_dev25_eq c) (off3_at c 9) (k0_off4_eq c) (k0_off5_eq c) (off6_at c 9) ?_
  refine wp_send x K 11 (by decide) (by decide) (k0_dev26_eq c) (off3_at c 10) (k0_off4_eq c) (k0_off5_eq c) (off6_at c 10) ?_
  exact wp_end h

/-- Copies 12 to 14. -/
theorem part8 {c : Dev nD} {R : sProp 𝕄} {Q : PUnit → sProp 𝕄} {v2 : BitVec 32}
    (h : iprop(records x K ∗ Ow c (owedSend c 15) ∗ from' 15 (sendF x c) ∗ upto 15 (sentF c) ∗ R) ⊢ Q ⟨⟩) :
    iprop(records x K ∗ Ow c (owedSend c 12) ∗ from' 12 (sendF x c) ∗ upto 12 (sentF c) ∗ R)
      ⊢ WP c (k0_part8 (F := F) xM hx wM hw oM ho bM hb aM ha cc0_scratch2 cc0_scratch3 cc0_scratch4 cc0_scratch5 c v2) Q := by
  rw [k0_part8_eq_skeleton]; unfold k0_part8_skel
  simp only [semSignalWord, semWaitWord, Prog.lift, Prog.bind_op, Prog.bind_ret, Prog.pure_eq_ret, wp_deviceId]
  refine wp_send x K 12 (by decide) (by decide) (k0_dev27_eq c) (off3_at c 11) (k0_off4_eq c) (k0_off5_eq c) (off6_at c 11) ?_
  refine wp_send x K 13 (by decide) (by decide) (k0_dev28_eq c) (off3_at c 12) (k0_off4_eq c) (k0_off5_eq c) (off6_at c 12) ?_
  refine wp_send x K 14 (by decide) (by decide) (k0_dev29_eq c) (off3_at c 13) (k0_off4_eq c) (k0_off5_eq c) (off6_at c 13) ?_
  exact wp_end h

/-- Copy 15, and receive waits 1 and 2. -/
theorem part9 {c : Dev nD} {R : sProp 𝕄} {Q : PUnit → sProp 𝕄} {v2 : BitVec 32}
    (h : iprop(records x K ∗ Ow c 0 ∗ from' 3 (recvF c) ∗ upto 3 (rcvdF x c) ∗ from' 1 (sentF c) ∗ R) ⊢ Q ⟨⟩) :
    iprop(records x K ∗ Ow c (owedSend c 15) ∗ from' 15 (sendF x c) ∗ upto 15 (sentF c) ∗ from' 1 (recvF c) ∗ R)
      ⊢ WP c (k0_part9 (F := F) xM hx wM hw oM ho bM hb aM ha cc0_scratch2 cc0_scratch3 cc0_scratch4 cc0_scratch5 c v2) Q := by
  rw [k0_part9_eq_skeleton]; unfold k0_part9_skel
  simp only [semSignalWord, semWaitWord, Prog.lift, Prog.bind_op, Prog.bind_ret, Prog.pure_eq_ret, wp_deviceId]
  refine wp_send x K 15 (by decide) (by decide) (k0_dev30_eq c) (off3_at c 14) (k0_off4_eq c) (k0_off5_eq c) (off6_at c 14) ?_
  refine BIBase.Entails.trans (show _ ⊢ iprop(records x K ∗ Ow c 0 ∗ from' 1 (recvF c) ∗ upto 1 (rcvdF x c) ∗ from' 1 (sentF c) ∗ R) from ?_) ?_
  · rw [show (15 + 1 : ℕ) = 16 from rfl, Ow_send_end, show upto 1 (rcvdF x c) = iprop(emp) by rw [upto, Finset.Ico_self, bigSep_empty]; rfl]
    iintro ⟨HR, HO, -, Hd, Hr, HF⟩
    isplitl [HR]; · iexact HR
    isplitl [HO]; · iexact HO
    isplitl [Hr]; · iexact Hr
    isplitr; · iempintro
    isplitl [Hd]; · iexact Hd
    iexact HF
  refine wp_recv x K 1 (by decide) (by decide) (off7_at c 0) (off8_at c 0) ?_
  refine wp_recv x K 2 (by decide) (by decide) (off7_at c 1) (off8_at c 1) ?_
  exact wp_end h

/-- Receive waits 3 to 5. -/
theorem part10 {c : Dev nD} {R : sProp 𝕄} {Q : PUnit → sProp 𝕄} {v2 : BitVec 32}
    (h : iprop(records x K ∗ Ow c 0 ∗ from' 6 (recvF c) ∗ upto 6 (rcvdF x c) ∗ R) ⊢ Q ⟨⟩) :
    iprop(records x K ∗ Ow c 0 ∗ from' 3 (recvF c) ∗ upto 3 (rcvdF x c) ∗ R)
      ⊢ WP c (k0_part10 (F := F) xM hx wM hw oM ho bM hb aM ha cc0_scratch2 cc0_scratch3 cc0_scratch4 cc0_scratch5 c v2) Q := by
  rw [k0_part10_eq_skeleton]; unfold k0_part10_skel
  simp only [semSignalWord, semWaitWord, Prog.lift, Prog.bind_op, Prog.bind_ret, Prog.pure_eq_ret, wp_deviceId]
  refine wp_recv x K 3 (by decide) (by decide) (off7_at c 2) (off8_at c 2) ?_
  refine wp_recv x K 4 (by decide) (by decide) (off7_at c 3) (off8_at c 3) ?_
  refine wp_recv x K 5 (by decide) (by decide) (off7_at c 4) (off8_at c 4) ?_
  exact wp_end h

/-- Receive waits 6 to 8. -/
theorem part11 {c : Dev nD} {R : sProp 𝕄} {Q : PUnit → sProp 𝕄} {v2 : BitVec 32}
    (h : iprop(records x K ∗ Ow c 0 ∗ from' 9 (recvF c) ∗ upto 9 (rcvdF x c) ∗ R) ⊢ Q ⟨⟩) :
    iprop(records x K ∗ Ow c 0 ∗ from' 6 (recvF c) ∗ upto 6 (rcvdF x c) ∗ R)
      ⊢ WP c (k0_part11 (F := F) xM hx wM hw oM ho bM hb aM ha cc0_scratch2 cc0_scratch3 cc0_scratch4 cc0_scratch5 c v2) Q := by
  rw [k0_part11_eq_skeleton]; unfold k0_part11_skel
  simp only [semSignalWord, semWaitWord, Prog.lift, Prog.bind_op, Prog.bind_ret, Prog.pure_eq_ret, wp_deviceId]
  refine wp_recv x K 6 (by decide) (by decide) (off7_at c 5) (off8_at c 5) ?_
  refine wp_recv x K 7 (by decide) (by decide) (off7_at c 6) (off8_at c 6) ?_
  refine wp_recv x K 8 (by decide) (by decide) (off7_at c 7) (off8_at c 7) ?_
  exact wp_end h

/-- Receive waits 9 to 11. -/
theorem part12 {c : Dev nD} {R : sProp 𝕄} {Q : PUnit → sProp 𝕄} {v2 : BitVec 32}
    (h : iprop(records x K ∗ Ow c 0 ∗ from' 12 (recvF c) ∗ upto 12 (rcvdF x c) ∗ R) ⊢ Q ⟨⟩) :
    iprop(records x K ∗ Ow c 0 ∗ from' 9 (recvF c) ∗ upto 9 (rcvdF x c) ∗ R)
      ⊢ WP c (k0_part12 (F := F) xM hx wM hw oM ho bM hb aM ha cc0_scratch2 cc0_scratch3 cc0_scratch4 cc0_scratch5 c v2) Q := by
  rw [k0_part12_eq_skeleton]; unfold k0_part12_skel
  simp only [semSignalWord, semWaitWord, Prog.lift, Prog.bind_op, Prog.bind_ret, Prog.pure_eq_ret, wp_deviceId]
  refine wp_recv x K 9 (by decide) (by decide) (off7_at c 8) (off8_at c 8) ?_
  refine wp_recv x K 10 (by decide) (by decide) (off7_at c 9) (off8_at c 9) ?_
  refine wp_recv x K 11 (by decide) (by decide) (off7_at c 10) (off8_at c 10) ?_
  exact wp_end h

/-- Receive waits 12 to 14. -/
theorem part13 {c : Dev nD} {R : sProp 𝕄} {Q : PUnit → sProp 𝕄} {v2 : BitVec 32}
    (h : iprop(records x K ∗ Ow c 0 ∗ from' 15 (recvF c) ∗ upto 15 (rcvdF x c) ∗ R) ⊢ Q ⟨⟩) :
    iprop(records x K ∗ Ow c 0 ∗ from' 12 (recvF c) ∗ upto 12 (rcvdF x c) ∗ R)
      ⊢ WP c (k0_part13 (F := F) xM hx wM hw oM ho bM hb aM ha cc0_scratch2 cc0_scratch3 cc0_scratch4 cc0_scratch5 c v2) Q := by
  rw [k0_part13_eq_skeleton]; unfold k0_part13_skel
  simp only [semSignalWord, semWaitWord, Prog.lift, Prog.bind_op, Prog.bind_ret, Prog.pure_eq_ret, wp_deviceId]
  refine wp_recv x K 12 (by decide) (by decide) (off7_at c 11) (off8_at c 11) ?_
  refine wp_recv x K 13 (by decide) (by decide) (off7_at c 12) (off8_at c 12) ?_
  refine wp_recv x K 14 (by decide) (by decide) (off7_at c 13) (off8_at c 13) ?_
  exact wp_end h

/-- Receive wait 15, the product of what has been gathered with `w`, and departure waits 1 to 4. -/
theorem part14 {c : Dev nD} {R : sProp 𝕄} {Q : FVec F S64x1024 .f32 → sProp 𝕄} {w : Vec F S1024x1024 .f32}
    (h : iprop(records x K ∗ Ow c 0 ∗ from' 5 (waitF c) ∗ upto 5 (backF x c) ∗ bPts c (gathered x c) ∗ (from' 1 fun k => semVal (recvCell c (orig c k)) 0) ∗ wPts c w ∗ R)
      ⊢ Q (k0_pay3 (gathered x c) w)) :
    iprop(records x K ∗ Ow c 0 ∗ from' 15 (recvF c) ∗ upto 15 (rcvdF x c)
        ∗ slotPts c c (gathered x c) ∗ wPts c w ∗ from' 1 (leftF c) ∗ from' 1 (sentF c) ∗ R)
      ⊢ WP c (k0_part14 (F := F) xM hx wM hw oM ho bM hb aM ha cc0_scratch2 cc0_scratch3 cc0_scratch4 cc0_scratch5 c) Q := by
  rw [k0_part14_eq_skeleton]; unfold k0_part14_skel
  simp only [semSignalWord, semWaitWord, Prog.lift, Prog.bind_op, Prog.bind_ret, Prog.pure_eq_ret, wp_deviceId]
  refine wp_recv x K 15 (by decide) (by decide) (off7_at c 14) (off8_at c 14) ?_
  refine BIBase.Entails.trans (show _ ⊢ iprop(bPts c (gathered x c) ∗ wPts c w ∗ records x K ∗ Ow c 0 ∗ from' 1 (waitF c) ∗ upto 1 (backF x c)
    ∗ (from' 1 fun k => semVal (recvCell c (orig c k)) 0) ∗ R) from ?_) ?_
  · rw [show (15 + 1 : ℕ) = 16 from rfl, bPts_origs, show upto 1 (backF x c) = iprop(emp) by rw [upto, Finset.Ico_self, bigSep_empty]; rfl]
    unfold waitF rcvdF
    rw [from', upto, from', from', from', from', from', bigSep_sep', bigSep_sep']
    iintro ⟨HR, HO, -, ⟨Hb, Hz⟩, Hs, Hw, Hl, Hd, HF⟩
    isplitl [Hb Hs]; · isplitl [Hs] <;> iassumption
    isplitl [Hw]; · iexact Hw
    isplitl [HR]; · iexact HR
    isplitl [HO]; · iexact HO
    isplitl [Hl Hd]; · isplitl [Hl] <;> iassumption
    isplitr; · iempintro
    isplitl [Hz] <;> iassumption
  refine load_step (m := bM) (S := Finset.univ) (q := fullShare) (f := gathered x c) rfl (Finset.subset_univ _) (BIBase.Entails.trans (show _ ⊢ iprop(wPts c w ∗ bPts c (gathered x c)
    ∗ records x K ∗ Ow c 0 ∗ from' 1 (waitF c) ∗ upto 1 (backF x c) ∗ (from' 1 fun k => semVal (recvCell c (orig c k)) 0) ∗ R) from ?_) ?_)
  · iintro ⟨Hb, Hw, HF⟩
    isplitl [Hw]; · iexact Hw
    isplitl [Hb] <;> iassumption
  refine load_step (m := wM) (S := Finset.univ) (q := fullShare) (f := w) rfl (Finset.subset_univ _) (BIBase.Entails.trans (show _ ⊢ iprop(records x K ∗ Ow c 0 ∗ from' 1 (waitF c) ∗ upto 1 (backF x c)
    ∗ bPts c (gathered x c) ∗ (from' 1 fun k => semVal (recvCell c (orig c k)) 0) ∗ wPts c w ∗ R) from ?_) ?_)
  · iintro ⟨Hw, Hb, HR, HO, Hl, Hd, Hz, HF⟩
    isplitl [HR]; · iexact HR
    isplitl [HO]; · iexact HO
    isplitl [Hl]; · iexact Hl
    isplitl [Hd]; · iexact Hd
    isplitl [Hb]; · iexact Hb
    isplitl [Hz]; · iexact Hz
    isplitl [Hw] <;> iassumption
  rw [read_b, read_w]
  refine wp_left x K 1 (by decide) (by decide) (off3_at c 0) (off6_at c 0) ?_
  refine wp_left x K 2 (by decide) (by decide) (off3_at c 1) (off6_at c 1) ?_
  refine wp_left x K 3 (by decide) (by decide) (off3_at c 2) (off6_at c 2) ?_
  refine wp_left x K 4 (by decide) (by decide) (off3_at c 3) (off6_at c 3) ?_
  exact wp_end h

/-- Departure waits 5 to 10. -/
theorem part15 {c : Dev nD} {R : sProp 𝕄} {Q : PUnit → sProp 𝕄}
    (h : iprop(records x K ∗ Ow c 0 ∗ from' 11 (waitF c) ∗ upto 11 (backF x c) ∗ R) ⊢ Q ⟨⟩) :
    iprop(records x K ∗ Ow c 0 ∗ from' 5 (waitF c) ∗ upto 5 (backF x c) ∗ R)
      ⊢ WP c (k0_part15 (F := F) xM hx wM hw oM ho bM hb aM ha cc0_scratch2 cc0_scratch3 cc0_scratch4 cc0_scratch5 c) Q := by
  rw [k0_part15_eq_skeleton]; unfold k0_part15_skel
  simp only [semSignalWord, semWaitWord, Prog.lift, Prog.bind_op, Prog.bind_ret, Prog.pure_eq_ret, wp_deviceId]
  refine wp_left x K 5 (by decide) (by decide) (off3_at c 4) (off6_at c 4) ?_
  refine wp_left x K 6 (by decide) (by decide) (off3_at c 5) (off6_at c 5) ?_
  refine wp_left x K 7 (by decide) (by decide) (off3_at c 6) (off6_at c 6) ?_
  refine wp_left x K 8 (by decide) (by decide) (off3_at c 7) (off6_at c 7) ?_
  refine wp_left x K 9 (by decide) (by decide) (off3_at c 8) (off6_at c 8) ?_
  refine wp_left x K 10 (by decide) (by decide) (off3_at c 9) (off6_at c 9) ?_
  exact wp_end h

/-- Departure waits 11 to 15. -/
theorem part16 {c : Dev nD} {R : sProp 𝕄} {Q : (Σ' (v484 : FVec F S64x1024 .f32) (v489 : FVec F S64x1024 .f32), F .f32) → sProp 𝕄} {a : FVec F S64x1024 .f32}
    (h : iprop(records x K ∗ Ow c 0 ∗ from' 16 (waitF c) ∗ upto 16 (backF x c) ∗ R) ⊢ Q ⟨k0_pay4 a, k0_pay5 a, Scalar.ofBits .f32 0x3F4C422A#32⟩) :
    iprop(records x K ∗ Ow c 0 ∗ from' 11 (waitF c) ∗ upto 11 (backF x c) ∗ R)
      ⊢ WP c (k0_part16 (F := F) xM hx wM hw oM ho bM hb aM ha cc0_scratch2 cc0_scratch3 cc0_scratch4 cc0_scratch5 c a) Q := by
  rw [k0_part16_eq_skeleton]; unfold k0_part16_skel
  simp only [semSignalWord, semWaitWord, Prog.lift, Prog.bind_op, Prog.bind_ret, Prog.pure_eq_ret, wp_deviceId]
  refine wp_left x K 11 (by decide) (by decide) (off3_at c 10) (off6_at c 10) ?_
  refine wp_left x K 12 (by decide) (by decide) (off3_at c 11) (off6_at c 11) ?_
  refine wp_left x K 13 (by decide) (by decide) (off3_at c 12) (off6_at c 12) ?_
  refine wp_left x K 14 (by decide) (by decide) (off3_at c 13) (off6_at c 13) ?_
  refine wp_left x K 15 (by decide) (by decide) (off3_at c 14) (off6_at c 14) ?_
  exact wp_end h

end Parts

/-- `o` held whole on device `c`. -/
def oPts (c : Dev nD) (g : Vec F S64x1024 .f32) : sProp 𝕄 := ((c : Thread nD τ).loc cc0_stg2_0) ↦{fullShare} (g : Buf (Elt F) ((c : Thread nD τ).loc cc0_stg2_0))

/-- What the body stores: the activation of the product of `w` with what device `c` has gathered. -/
def result (x : Dev nD → Vec F S1024x64 .f32) (c : Dev nD) (w : Vec F S1024x1024 .f32) : FVec F S64x1024 .f32 :=
  k0_pay1 (k0_pay4 (k0_pay3 (gathered x c) w)) (k0_pay5 (k0_pay3 (gathered x c) w)) (Scalar.ofBits .f32 0x3F4C422A#32)

section Whole

variable (x : Dev nD → Vec F S1024x64 .f32) (K : Dev nD × Which → ℕ)
  {hx : xM.IsWhole} {hw : wM.IsWhole} {ho : oM.IsWhole} {hb : bM.IsWhole} {aM : Memref sig .tc .vmem S64x1024 .f32} {ha : aM.IsWhole}

/-- After the barrier: every copy has what it takes. -/
theorem to_sends {c : Dev nD} {f1 : Buf (Elt F) ((c : Thread nD τ).loc cc0_scratch0)} {R : sProp 𝕄} :
    iprop(records x K ∗ Ow c (owedSend c 1) ∗ from' 1 (gotF c) ∗ semVal (barCell c) 0 ∗ xPts x c ∗ slotPts c c f1
        ∗ from' 1 (tokF c) ∗ from' 1 (recvF c) ∗ R)
      ⊢ iprop(records x K ∗ Ow c (owedSend c 1) ∗ from' 1 (sendF x c) ∗ upto 1 (sentF c) ∗ from' 1 (recvF c)
        ∗ semVal (barCell c) 0 ∗ rowsPts x c c ∗ slotPts c c f1 ∗ R) := by
  rw [xPts_split, show upto 1 (sentF (F := F) c) = iprop(emp) by rw [upto, Finset.Ico_self, bigSep_empty]; rfl,
    show from' 1 (sendF x c) = iprop(from' 1 (gotF c) ∗ from' 1 (tokF c) ∗ from' 1 fun k => rowsPts x c (peer c k)) by
      unfold sendF; rw [from', bigSep_sep', bigSep_sep']]
  iintro ⟨HR, HO, Hg, Hz, ⟨Hx, Hrows⟩, Hs, Ht, Hd, HF⟩
  isplitl [HR]; · iexact HR
  isplitl [HO]; · iexact HO
  isplitl [Hg Ht Hrows]
  · isplitl [Hg]; · iexact Hg
    isplitl [Ht] <;> iassumption
  isplitr; · iempintro
  isplitl [Hd]; · iexact Hd
  isplitl [Hz]; · iexact Hz
  isplitl [Hx]; · iexact Hx
  isplitl [Hs] <;> iassumption

/-- After the receive waits but one: what the last one, the product and the departure waits take. -/
theorem to_product {c : Dev nD} {f1 : Buf (Elt F) ((c : Thread nD τ).loc cc0_scratch0)} {w : Vec F S1024x1024 .f32} {R : sProp 𝕄} :
    iprop(records x K ∗ Ow c 0 ∗ from' 15 (recvF c) ∗ upto 15 (rcvdF x c) ∗ from' 1 (sentF c)
        ∗ semVal (barCell c) 0 ∗ rowsPts x c c ∗ slotPts c c f1 ∗ from' 1 (leftF c) ∗ wPts c w ∗ R)
      ⊢ iprop(records x K ∗ Ow c 0 ∗ from' 15 (recvF c) ∗ upto 15 (rcvdF x c)
        ∗ slotPts c c f1 ∗ wPts c w ∗ from' 1 (leftF c) ∗ from' 1 (sentF c) ∗ semVal (barCell c) 0 ∗ rowsPts x c c ∗ R) := by
  iintro ⟨HR, HO, Hr, Hd, Hse, Hz, Hx, Hs, Hl, Hw, HF⟩
  isplitl [HR]; · iexact HR
  isplitl [HO]; · iexact HO
  isplitl [Hr]; · iexact Hr
  isplitl [Hd]; · iexact Hd
  isplitl [Hs]; · iexact Hs
  isplitl [Hw]; · iexact Hw
  isplitl [Hl]; · iexact Hl
  isplitl [Hse]; · iexact Hse
  isplitl [Hz]; · iexact Hz
  isplitl [Hx] <;> iassumption

/-- After the departure waits: `x` is whole again. -/
theorem to_store {c : Dev nD} {f1 : Buf (Elt F) ((c : Thread nD τ).loc cc0_scratch0)} {w : Vec F S1024x1024 .f32} {g : Vec F S64x1024 .f32} {R : sProp 𝕄} :
    iprop(records x K ∗ Ow c 0 ∗ from' 16 (waitF c) ∗ upto 16 (backF x c) ∗ bPts c f1 ∗ (from' 1 fun k => semVal (recvCell c (orig c k)) 0) ∗ wPts c w
        ∗ semVal (barCell c) 0 ∗ rowsPts x c c ∗ oPts c g ∗ R)
      ⊢ iprop(oPts c g ∗ records x K ∗ Ow c 0 ∗ xPts x c ∗ wPts c w ∗ bPts c f1 ∗ semVal (barCell c) 0
        ∗ (from' 1 fun k => semVal (sendCell c (peer c k)) 0) ∗ (from' 1 fun k => semVal (recvCell c (orig c k)) 0) ∗ R) := by
  rw [xPts_split, show upto 16 (backF x c) = iprop((from' 1 fun k => rowsPts x c (peer c k)) ∗ from' 1 fun k => semVal (sendCell c (peer c k)) 0) by
      unfold backF; rw [upto, bigSep_sep']]
  iintro ⟨HR, HO, -, ⟨Hrows, Hsz⟩, Hb, Hrz, Hw, Hz, Hx, Ho, HF⟩
  isplitl [Ho]; · iexact Ho
  isplitl [HR]; · iexact HR
  isplitl [HO]; · iexact HO
  isplitl [Hx Hrows]; · isplitl [Hx] <;> iassumption
  isplitl [Hw]; · iexact Hw
  isplitl [Hb]; · iexact Hb
  isplitl [Hz]; · iexact Hz
  isplitl [Hsz]; · iexact Hsz
  isplitl [Hrz] <;> iassumption

/-- The body: from what a device starts with to the result stored, every cell it waits on closed and nothing owed. -/
theorem body_run {c : Dev nD} {f : Buf (Elt F) ((c : Thread nD τ).loc cc0_scratch0)} {w : Vec F S1024x1024 .f32} {g : Vec F S64x1024 .f32} {R : sProp 𝕄} {Q : PUnit → sProp 𝕄}
    (h : iprop(oPts c (result x c w) ∗ records x K ∗ Ow c 0 ∗ xPts x c ∗ wPts c w ∗ bPts c (gathered x c) ∗ semVal (barCell c) 0
        ∗ (from' 1 fun k => semVal (sendCell c (peer c k)) 0) ∗ (from' 1 fun k => semVal (recvCell c (orig c k)) 0) ∗ R) ⊢ |={Set.univ}=> Q ⟨⟩) :
    iprop(records x K ∗ Ow c (owedSend c 1 + owedSig c 1) ∗ from' 1 (sigF c) ∗ levAts L lv ∗ atPos EX (barCell c) 0 ∅ 0 ∗ cred (tallyAt (barCell c) () 15)
        ∗ xPts x c ∗ slotPts c c f ∗ from' 1 (tokF c) ∗ from' 1 (recvF c) ∗ from' 1 (leftF c) ∗ wPts c w ∗ oPts c g ∗ R)
      ⊢ WP c (cc0_body (F := F) xM hx wM hw oM ho bM hb aM ha cc0_scratch2 cc0_scratch3 cc0_scratch4 cc0_scratch5) Q := by
  rw [cc0_body_eq_skeleton]; unfold cc0_body_skel
  refine wp_seq (part1 x K fun v2 v24 w1 => ?_)
  refine wp_seq (part2 x K fun v48 w2 => ?_)
  refine wp_seq (part3 x K fun v73 w3 => (to_sends x K).trans ?_)
  refine wp_seq (part4 x K fun w4 => ?_)
  refine wp_seq (part5 x K fun w5 => ?_)
  refine wp_seq (part6 x K ?_)
  refine wp_seq (part7 x K ?_)
  refine wp_seq (part8 x K ?_)
  refine wp_seq (part9 x K ?_)
  refine wp_seq (part10 x K ?_)
  refine wp_seq (part11 x K ?_)
  refine wp_seq (part12 x K ?_)
  refine wp_seq (part13 x K ((to_product x K).trans ?_))
  refine wp_seq (part14 x K ?_)
  refine wp_seq (part15 x K ?_)
  refine wp_seq (part16 x K ((to_store x K).trans ?_))
  simp only [Prog.lift, Prog.bind_op, Prog.bind_ret, Prog.pure_eq_ret]
  refine load_step (m := oM) (S := Finset.univ) (q := fullShare) (f := g) rfl (Finset.subset_univ _) ?_
  refine store_step (m := oM) (S := Finset.univ) (f := g) rfl (Finset.subset_univ _) ?_
  rw [write_o]
  exact h

end Whole

end Cert.Exchange

end
-- ==== Proof.Region.lean ====
/-
# The body as the pipeline's obligation

What a device's body starts from and leaves, as the pipeline that stages its arguments and its result sees it.
-/
module

public import proofs.«01_k».proof.Proof.Body
public import proofs.«01_k».proof.Proof.Gen.KernelIdeal.Points

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The machine at launch: any memory, every counter at zero. -/
def s₀ : MemSt nD τ sig (Elt F) := ⟨m, fun _ => 0, ρ⟩

/-- The blocks of `x` and of `w` that device `c` stages. -/
def xstg (c : Dev nD) : Vec F S1024x64 .f32 := (win0_0.blk (0 : Fin 1)).view.read (Elt F) ((s₀ m ρ).mem ((c : Thread nD τ).loc main_arg0))
def wstg (c : Dev nD) : Vec F S1024x1024 .f32 := (win0_1.blk (0 : Fin 1)).view.read (Elt F) ((s₀ m ρ).mem ((c : Thread nD τ).loc main_arg1))
/-- The result on device `c`. -/
def outAt (c : Dev nD) : Vec F S64x1024 .f32 := result (xstg m ρ) c (wstg m ρ c)

/-- The accumulator that the kernel declares and never touches. -/
def aPts (c : Dev nD) : sProp 𝕄 :=
  iprop(∃ f : Buf (Elt F) ((c : Thread nD τ).loc cc0_scratch1), ((c : Thread nD τ).loc cc0_scratch1) ↦{fullShare} f)

/-- A conjunction over the exchange's semaphores, by kind. -/
theorem bigSep_which (Φ : Which → sProp 𝕄) :
    bigSep Finset.univ Φ = iprop(Φ none ∗ (bigSep Finset.univ fun j => Φ (some (false, j))) ∗ bigSep Finset.univ fun j => Φ (some (true, j))) := by
  have hb (Ψ : Bool → sProp 𝕄) : bigSep Finset.univ Ψ = iprop(Ψ false ∗ Ψ true) := bigSep_univ_eq_bigSepL [false, true] (by decide) (by decide) ..
  have hs : bigSep Finset.univ Φ = iprop(Φ none ∗ bigSep Finset.univ fun bj => Φ (some bj)) := by
    refine (bigSep_univ_equiv ((Equiv.sumComm PUnit.{1} _).trans (Equiv.optionEquivSumPUnit (Bool × Dev nD)).symm) Φ).trans ?_
    rw [bigSep_univ_sum]
    exact congrArg (iprop(· ∗ bigSep Finset.univ fun bj => Φ (some bj))) (bigSep_singleton ..)
  rw [hs, bigSep_univ_prod, hb]

/-- The tokens of the duties that device `c` pays. -/
def payToks (c : Dev nD) : sProp 𝕄 :=
  iprop((bigSep Finset.univ fun p => dutyTok EX (barCell p) 0 c) ∗ (bigSep Finset.univ fun j => dutyTok EX (sendCell c j) 0 j)
    ∗ bigSep Finset.univ fun p => dutyTok EX (recvCell p c) 0 c)
/-- What of the exchange's ghost state is device `c`'s alone: its positions at its cells and those tokens. -/
def linear (c : Dev nD) : sProp 𝕄 := iprop((bigSep Finset.univ fun k : Which => atPos EX (cell c k) 0 ∅ 0) ∗ payToks c)
/-- The launch's credit at its barrier cell and at its receive cells. -/
def credF (c : Dev nD) : sProp 𝕄 :=
  iprop(cred (tallyAt (barCell c) () 15) ∗ from' 1 fun k => cred (tallyAt (recvCell c (orig c k)) () N))
/-- What device `c`'s body starts from, -/
def start (c : Dev nD) : sProp 𝕄 := iprop((∃ K, records (xstg m ρ) K ∗ linear c) ∗ credF c ∗ levAts L lv)
def Φ₀ (c : Dev nD) : sProp 𝕄 := iprop(start m ρ c ∗ (∃ f, bPts c f) ∗ aPts c)
/-- and what it leaves: its buffers, and every semaphore of the exchange back at zero. -/
def Φ₁ (c : Dev nD) : sProp 𝕄 :=
  iprop(bPts c (gathered (xstg m ρ) c) ∗ aPts c ∗ bigSep Finset.univ fun k : Which => semVal (cell c k) 0)

/-- The pipeline's proof data: the arrays as launched, the blocks that the body leaves, and what the device owes before and after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-! ## Before and after the body -/

section Ends

variable (x : Dev nD → Vec F S1024x64 .f32) (K : Dev nD × Which → ℕ)

/-- What the body takes along untouched: the positions at the two cells of the device's own name, and the accumulator. -/
def spare (c : Dev nD) : sProp 𝕄 :=
  iprop(atPos EX (cell c (some (false, c))) 0 ∅ 0 ∗ atPos EX (cell c (some (true, c))) 0 ∅ 0 ∗ aPts c)

/-- What the launch deals a device is what its body's steps take. -/
theorem to_body {c : Dev nD} {f : Buf (Elt F) ((c : Thread nD τ).loc cc0_scratch0)} {w : Vec F S1024x1024 .f32} {g : Vec F S64x1024 .f32} :
    iprop(records x K ∗ linear c ∗ credF c ∗ levAts L lv ∗ bPts c f ∗ aPts c ∗ Ow c (O₀ c) ∗ xPts x c ∗ wPts c w ∗ oPts c g)
      ⊢ iprop(records x K ∗ Ow c (owedSend c 1 + owedSig c 1) ∗ from' 1 (sigF c) ∗ levAts L lv ∗ atPos EX (barCell c) 0 ∅ 0 ∗ cred (tallyAt (barCell c) () 15)
        ∗ xPts x c ∗ slotPts c c f ∗ from' 1 (tokF c) ∗ from' 1 (recvF c) ∗ from' 1 (leftF c) ∗ wPts c w ∗ oPts c g ∗ spare c) := by
  have hsig : iprop((from' 1 fun k => dutyTok EX (barCell (peer c k)) 0 c) ∗ from' 1 fun k => slotPts c (peer c k) f) ⊢ from' (F := F) 1 (sigF c) := by
    unfold sigF; rw [from', from', from', ← bigSep_sep']
    refine bigSep_mono fun k _ => ?_
    show iprop(dutyTok EX (barCell (peer c k)) 0 c ∗ slotPts c (peer c k) f) ⊢ iprop(dutyTok EX (barCell (peer c k)) 0 c ∗ ∃ f, slotPts c (peer c k) f)
    iintro ⟨Ht, H⟩
    isplitl [Ht]; · iexact Ht
    iexists f; iexact H
  unfold linear payToks credF spare tokF recvF leftF
  rw [bigSep_which, bPts_peers, bigSep_all_peers c fun j => atPos EX (cell c (some (false, j))) 0 ∅ 0,
    bigSep_all_origs c fun j => atPos EX (cell c (some (true, j))) 0 ∅ 0,
    bigSep_all_peers c fun p => dutyTok EX (barCell p) 0 c, bigSep_all_peers c fun j => dutyTok EX (sendCell c j) 0 j,
    bigSep_all_peers c fun p => dutyTok EX (recvCell p c) 0 c,
    show (from' 1 fun k => iprop(dutyTok EX (sendCell c (peer c k)) 0 (peer c k) ∗ dutyTok EX (recvCell (peer c k) c) 0 c) : sProp 𝕄)
      = iprop((from' 1 fun k => dutyTok EX (sendCell c (peer c k)) 0 (peer c k)) ∗ from' 1 fun k => dutyTok EX (recvCell (peer c k) c) 0 c) from bigSep_sep' _ _ _,
    show (from' 1 fun k => iprop(atPos EX (recvCell c (orig c k)) 0 ∅ 0 ∗ cred (tallyAt (recvCell c (orig c k)) () N)) : sProp 𝕄)
      = iprop((from' 1 fun k => atPos EX (recvCell c (orig c k)) 0 ∅ 0) ∗ from' 1 fun k => cred (tallyAt (recvCell c (orig c k)) () N)) from bigSep_sep' _ _ _]
  iintro ⟨HR, ⟨⟨HaB, ⟨HaS, HaSs⟩, ⟨HaR, HaRs⟩⟩, ⟨-, Htb⟩, ⟨-, Hts⟩, ⟨-, Htr⟩⟩, ⟨HcB, HcR⟩, Hlev, ⟨Hs, Hss⟩, Ha, HO, Hx, Hw, Ho⟩
  isplitl [HR]; · iexact HR
  isplitl [HO]; · iexact HO
  isplitl [Htb Hss]
  · iapply hsig; isplitl [Htb] <;> iassumption
  isplitl [Hlev]; · iexact Hlev
  isplitl [HaB]; · iexact HaB
  isplitl [HcB]; · iexact HcB
  isplitl [Hx]; · iexact Hx
  isplitl [Hs]; · iexact Hs
  isplitl [Hts Htr]
  · isplitl [Hts]; · iexact Hts
    iexact Htr
  isplitl [HaRs HcR]
  · isplitl [HaRs]; · iexact HaRs
    iexact HcR
  isplitl [HaSs]; · iexact HaSs
  isplitl [Hw]; · iexact Hw
  isplitl [Ho]; · iexact Ho
  isplitl [HaS]; · iexact HaS
  isplitl [HaR] <;> iassumption

/-- After the body: the two cells of the device's own name close, and all of the exchange's semaphores are back. -/
theorem from_body {c : Dev nD} {f : Buf (Elt F) ((c : Thread nD τ).loc cc0_scratch0)} {w : Vec F S1024x1024 .f32} {g : Vec F S64x1024 .f32} :
    iprop(oPts c g ∗ records x K ∗ Ow c 0 ∗ xPts x c ∗ wPts c w ∗ bPts c f ∗ semVal (barCell c) 0
        ∗ (from' 1 fun k => semVal (sendCell c (peer c k)) 0) ∗ (from' 1 fun k => semVal (recvCell c (orig c k)) 0) ∗ spare c)
      ⊢ |={Set.univ}=> iprop((bPts c f ∗ aPts c ∗ bigSep Finset.univ fun k : Which => semVal (cell c k) 0)
        ∗ Ow c 0 ∗ xPts x c ∗ wPts c w ∗ oPts c g) := by
  rw [bigSep_which, bigSep_all_peers c fun j => semVal (cell c (some (false, j))) 0, bigSep_all_origs c fun j => semVal (cell c (some (true, j))) 0]
  unfold spare
  iintro ⟨Ho, #HR, HO, Hx, Hw, Hb, Hz, Hs, Hr, HaS, HaR, Ha⟩
  imod (close_self x K (c := c) false) $$ [HaS] with HzS
  · isplitr; · iexact HR
    iexact HaS
  imod (close_self x K (c := c) true) $$ [HaR] with HzR
  · isplitr; · iexact HR
    iexact HaR
  imodintro
  isplitl [Hb Ha Hz Hs Hr HzS HzR]
  · isplitl [Hb]; · iexact Hb
    isplitl [Ha]; · iexact Ha
    isplitl [Hz]; · iexact Hz
    isplitl [Hs HzS]
    · isplitl [HzS]; · iexact HzS
      iexact Hs
    isplitl [HzR]
    · iexact HzR
    iexact Hr
  isplitl [HO]; · iexact HO
  isplitl [Hx]; · iexact Hx
  isplitl [Hw] <;> iassumption

end Ends

/-! ## The obligation -/

theorem fetch_0 (t : Fin cfg0.N) : (cfg0.win (0 : Fin 3)).fetch t = true := fetch0_0 t
theorem fetch_1 (t : Fin cfg0.N) : (cfg0.win (1 : Fin 3)).fetch t = true := fetch0_1 t

/-- Owning a whole buffer at contents `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ m ρ c ∗ (dats m ρ 0 c).owesAt () t0_0.succ ∗ stg c cc0_stg0_0 (xstg m ρ c) ∗ stg c cc0_stg1_0 (wstg m ρ c) ∗ stg c cc0_stg2_0 (outAt m ρ c))

theorem pre_body (c : Dev nD) : bodyPre m ρ c ⊢ iprop(∃ K f g, records (xstg m ρ) K ∗ linear c ∗ credF c ∗ levAts L lv ∗ bPts c f ∗ aPts c ∗ Ow c (O₀ c)
    ∗ xPts (xstg m ρ) c ∗ wPts c (wstg m ρ c) ∗ oPts c g) := by
  unfold bodyPre Φ₀ start
  iintro ⟨⟨⟨⟨%K, HR, Hl⟩, Hc, Hlev⟩, ⟨%f, Hb⟩, Ha⟩, HO, ⟨%d0, %g0, %hg0, Hx⟩, ⟨%d1, %g1, %hg1, Hw⟩, ⟨%d2, %g2, %hg2, Ho⟩⟩
  have hx : g0 = xstg m ρ c := by rw [hg0]; unfold Dat.before; rw [if_pos (fetch_0 t0_0)]; rfl
  have hw : g1 = wstg m ρ c := by rw [hg1]; unfold Dat.before; rw [if_pos (fetch_1 t0_0)]; rfl
  subst hx; subst hw
  unfold Dat.owesAt Pipeline.owesWithin
  icases HO with ⟨%W, %hW, HO⟩
  rw [show (dats m ρ 0 c).owed t0_0.castSucc = O₀ c from rfl]
  iexists K; iexists f; iexists g2
  isplitl [HR]; · iexact HR
  isplitl [Hl]; · iexact Hl
  isplitl [Hc]; · iexact Hc
  isplitl [Hlev]; · iexact Hlev
  isplitl [Hb]; · iexact Hb
  isplitl [Ha]; · iexact Ha
  isplitl [HO]; · unfold Ow; iexists W; iexact HO
  isplitl [Hx]; · unfold xPts; iexact Hx
  isplitl [Hw]; · unfold wPts; iexact Hw
  unfold oPts; iexact Ho

theorem post_body (c : Dev nD) : iprop((bPts c (gathered (xstg m ρ) c) ∗ aPts c ∗ bigSep Finset.univ fun k : Which => semVal (cell c k) 0)
        ∗ Ow c 0 ∗ xPts (xstg m ρ) c ∗ wPts c (wstg m ρ c) ∗ oPts c (result (xstg m ρ) c (wstg m ρ c))) ⊢ bodyPost m ρ c := by
  unfold bodyPost Φ₁ Ow Dat.owesAt Pipeline.owesWithin xPts wPts oPts
  rw [show (dats m ρ 0 c).owed t0_0.succ = 0 from rfl]
  iintro ⟨HF, ⟨%W, HO⟩, Hx, Hw, Ho⟩
  isplitl [HF]; · iexact HF
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

/-- The body meets the pipeline's obligation on every device. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c
    (cc0_body xM (Memref.isWhole_whole _) wM (Memref.isWhole_whole _) oM (Memref.isWhole_whole _)
      bM (Memref.isWhole_whole _) (Memref.whole cc0_scratch1) (Memref.isWhole_whole _) cc0_scratch2 cc0_scratch3 cc0_scratch4 cc0_scratch5) (fun _ => bodyPost m ρ c)
  refine (pre_body m ρ c).trans ?_
  iintro ⟨%K, %f, %g, H⟩
  iapply ((to_body (xstg m ρ) K).trans (body_run (xstg m ρ) K ((from_body (xstg m ρ) K).trans (BI.fupd_mono (post_body m ρ c)))))
  iexact H

end Cert.Exchange

end
-- ==== Proof.Run.lean ====
/-
# The run

The launch of all sixteen devices: the exchange's cells allocated, its tokens and the launch's credit dealt out, and the pipeline's run theorem applied.
-/
module

public import proofs.«01_k».proof.Proof.Region
public import Idealize.ShloMosaic.Lib.Pipeline.CollectiveSegs

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The exchange's scoped semaphores: one send and one receive semaphore for each device's name. -/
def osem (bj : Bool × Dev nD) : SemLoc sig := csem (some bj)

theorem ownSemFacts : Pipeline.OwnSemFacts cfg0.spec osem where
  isScoped := by decide
  inj := fun a b h => Option.some.inj (csem_injective h)
  disj := by decide

theorem share_eq (c : Dev nD) (w : Fin cfg0.W) : (dats m ρ 0 c).share w = fullShare := by unfold Dat.share; split <;> rfl

/-! ## The cells and the tokens minted for them -/

theorem cell_injective : Function.Injective (fun ck : Dev nD × Which => cell ck.1 ck.2) := fun _ _ h => Prod.ext (cell_inj h).1 (cell_inj h).2
def exCells : Finset (GSem nD τ sig) := Finset.univ.map ⟨fun ck : Dev nD × Which => cell ck.1 ck.2, cell_injective⟩

/-- The kinds of a device's cells; the kind and a name make the semaphore. -/
def ofKind : Fin 3 → Dev nD → Which
  | 0, _ => none
  | 1, j => some (false, j)
  | 2, j => some (true, j)
theorem ofKind_inj : ∀ (i i' : Fin 3) (j : Dev nD), ofKind i j = ofKind i' j → i = i' := by decide
/-- The token of the duty of device `j`'s name at device `c`'s cell of kind `i`. -/
def tokOf (cij : Dev nD × Fin 3 × Dev nD) : GSem nD τ sig × ℕ × Dev nD := (cell cij.1 (ofKind cij.2.1 cij.2.2), 0, cij.2.2)
theorem tokOf_injective : Function.Injective tokOf := by
  rintro ⟨c, i, j⟩ ⟨c', i', j'⟩ h
  have hj : j = j' := congrArg (fun t : GSem nD τ sig × ℕ × Dev nD => t.2.2) h
  subst hj
  obtain ⟨hc, hk⟩ := cell_inj (congrArg (fun t : GSem nD τ sig × ℕ × Dev nD => t.1) h)
  rw [show c = c' from hc, ofKind_inj i i' j hk]
def exToks : Finset (GSem nD τ sig × ℕ × Dev nD) := Finset.univ.map ⟨tokOf, tokOf_injective⟩

/-- The ghost element that the launch owns: the staging pipeline's and the exchange's. -/
def u₀ : UU := (initOf (Pipeline.cells cfgs cellOf_inj) (Pipeline.launchToks cfgs cellOf_inj), initOf exCells exToks)

/-- The tokens of the duties at device `c`'s own cells. -/
def toks (c : Dev nD) : sProp 𝕄 :=
  iprop((bigSep Finset.univ fun j => dutyTok EX (barCell c) 0 j) ∗ (bigSep Finset.univ fun j => dutyTok EX (sendCell c j) 0 j)
    ∗ bigSep Finset.univ fun j => dutyTok EX (recvCell c j) 0 j)
/-- What the launch's ghost element deals device `c`, -/
def G (c : Dev nD) : sProp 𝕄 :=
  iprop((bigSep Finset.univ fun k : Which => roundState EX (sched (xstg m ρ)) (cell c k) 0)
    ∗ ((bigSep Finset.univ fun k : Which => atPos EX (cell c k) 0 ∅ 0) ∗ bigSep Finset.univ fun k : Which => reached EX (cell c k) 0) ∗ toks c)
/-- and what the exchange's set-up makes of it. -/
def G' (c : Dev nD) : sProp 𝕄 := iprop(∃ K, records (xstg m ρ) K ∗ linear c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_exchange : BI.own (EX (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Which => Φ (cell c k) := by
    unfold exCells; rw [bigSep_map, bigSep_univ_prod]; rfl
  have hT : bigSep exToks (fun t => (dutyTok EX t.1 t.2.1 t.2.2 : sProp 𝕄)) = bigSep Finset.univ fun c : Dev nD => toks c := by
    unfold exToks; rw [bigSep_map, bigSep_univ_prod]
    exact bigSep_congr fun c _ => by unfold toks; rw [bigSep_univ_prod, bigSep_fin3]; rfl
  iintro HX
  imod (Rounds.fund EX (sched (xstg m ρ)) exCells exToks) $$ HX with ⟨Hst, Hr, Hat, Htok⟩
  imodintro
  ihave Hst' := (Entails.of_eq (hX fun g => roundState EX (sched (xstg m ρ)) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The exchange's set-up -/

/-- The barrier semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- All of a device's semaphores of the exchange, at zero. -/
theorem sems_eq (c : Dev nD) : (bigSep Finset.univ fun k : Which => semVal (cell c k) 0 : sProp 𝕄)
    = iprop(unscopedSems0 c ∗ Pipeline.ownSems0 (Ix := Unit) (Name := ℕ) (U := UU) (Lvl := ℕ) (Val := Elt F) (τ := τ) osem c) := by
  rw [unscopedSems0_eq, bigSep_which, show Pipeline.ownSems0 (Ix := Unit) (Name := ℕ) (U := UU) (Lvl := ℕ) (Val := Elt F) (τ := τ) osem c
    = (bigSep Finset.univ fun bj : Bool × Dev nD => semVal (cell c (some bj)) 0 : sProp 𝕄) from rfl, bigSep_univ_prod,
    bigSep_univ_eq_bigSepL [false, true] (by decide) (by decide)]
  rfl

/-- One device's cells allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Which => iprop(∃ κ : ℕ, cellInv EX (sched (xstg m ρ)) κ (cell c k)))
          ∗ ((bigSep Finset.univ fun k : Which => atPos EX (cell c k) 0 ∅ 0) ∗ bigSep Finset.univ fun k : Which => reached EX (cell c k) 0) ∗ toks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : Which => semVal (cell c k) 0) ∗ bigSep Finset.univ fun k : Which => roundState EX (sched (xstg m ρ)) (cell c k) 0)
      ⊢ (|={Set.univ}=> bigSep Finset.univ fun k : Which => iprop(∃ κ : ℕ, cellInv EX (sched (xstg m ρ)) κ (cell c k)) : sProp 𝕄) from by
        rw [← bigSep_sep']
        exact (bigSep_mono fun k _ => (Rounds.body_intro EX (sched (xstg m ρ)) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- The tokens change hands: each goes from the device whose cell it is to the device that pays it. -/
theorem toks_around : (bigSep Finset.univ fun c : Dev nD => (toks c : sProp 𝕄)) = bigSep Finset.univ fun c : Dev nD => payToks c := by
  unfold toks payToks
  rw [bigSep_sep', bigSep_sep', bigSep_sep', bigSep_sep', BI.bigSep_univ_comm fun c j : Dev nD => (dutyTok EX (barCell c) 0 j : sProp 𝕄),
    BI.bigSep_univ_comm fun c j : Dev nD => (dutyTok EX (recvCell c j) 0 j : sProp 𝕄)]

/-- A fact that may be used again and again goes to every member of a family. -/
theorem share_out {I : Type} [DecidableEq I] {S : Finset I} {P : sProp 𝕄} [BI.Persistent P] {Φ Ψ : I → sProp 𝕄}
    (h : ∀ i ∈ S, iprop(P ∗ Φ i) ⊢ Ψ i) : iprop(P ∗ bigSep S Φ) ⊢ bigSep S Ψ :=
  (sep_mono_left (BI.bigSep_of_persistent S P)).trans (by rw [← bigSep_sep']; exact bigSep_mono h)

/-- The names that the allocation chose, gathered into one function for all devices. -/
theorem regroup :
    (bigSep Finset.univ fun c : Dev nD => iprop((bigSep Finset.univ fun k : Which => iprop(∃ κ : ℕ, cellInv EX (sched (xstg m ρ)) κ (cell c k)))
          ∗ ((bigSep Finset.univ fun k : Which => atPos EX (cell c k) 0 ∅ 0) ∗ bigSep Finset.univ fun k : Which => reached EX (cell c k) 0) ∗ toks c) : sProp 𝕄)
      ⊢ bigSep Finset.univ (G' m ρ) := by
  rw [bigSep_sep', bigSep_sep', bigSep_sep', ← bigSep_univ_prod (fun ck : Dev nD × Which => iprop(∃ κ : ℕ, cellInv EX (sched (xstg m ρ)) κ (cell ck.1 ck.2))),
    ← bigSep_univ_prod (fun ck : Dev nD × Which => (reached EX (cell ck.1 ck.2) 0 : sProp 𝕄)), toks_around]
  iintro ⟨HI, ⟨Hat, #HR⟩, Htok⟩
  ihave HK := (BI.bigSep_exists_pi Finset.univ (fun (ck : Dev nD × Which) (κ : ℕ) => (cellInv EX (sched (xstg m ρ)) κ (cell ck.1 ck.2) : sProp 𝕄))) $$ HI
  icases HK with ⟨%K, #HI⟩
  iapply (share_out (P := records (xstg m ρ) K) (Φ := linear) fun c _ =>
    show iprop(records (xstg m ρ) K ∗ linear c) ⊢ G' m ρ c from by unfold G'; iintro H; iexists K; iexact H)
  isplitr
  · unfold records; isplitl; · iexact HI
    iexact HR
  · unfold linear
    rw [bigSep_sep']
    isplitl [Hat]; · iexact Hat
    iexact Htok

/-- The set-up on all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credit -/

theorem sum_peers (d : Dev nD) (f : Dev nD → ℕ) : ∑ k ∈ Finset.Ico 1 16, f (peer d k) = ∑ p ∈ Finset.univ.erase d, f p := by
  rw [peers_eq d, Finset.sum_image fun k hk k' hk' h => peer_inj d k hk k' hk' h]

/-- Each other device owes a barrier cell one unit; -/
theorem owed_bar (d c : Dev nD) : owedSig d 1 (barCell c) () = if c = d then 0 else 1 := by
  have h (k : ℕ) : tallyAt (barCell (peer d k)) () 1 (barCell c) () = if c = peer d k then 1 else 0 := by
    rw [tallyAt_apply]
    by_cases h : c = peer d k
    · rw [if_pos h, if_pos ⟨congrArg barCell h, rfl⟩]
    · rw [if_neg h, if_neg fun h' => h (cell_inj (k := none) (k' := none) h'.1).1]
  unfold owedSig
  rw [Finset.sum_apply, Finsupp.finsetSum_apply, Finset.sum_congr rfl fun k _ => h k, sum_peers d fun p => if c = p then 1 else 0, Finset.sum_ite_eq]
  by_cases hc : c = d
  · rw [if_pos hc, if_neg fun h' => (Finset.mem_erase.mp h').1 hc]
  · rw [if_neg hc, if_pos (Finset.mem_erase.mpr ⟨hc, Finset.mem_univ _⟩)]

/-- device `j` owes the receive cell of its name one copy. -/
theorem owed_recv (d c j : Dev nD) (hj : j ≠ c) : owedSend d 1 (recvCell c j) () = if j = d then N else 0 := by
  have h (k : ℕ) : tallyAt (recvCell (peer d k) d) () N (recvCell c j) () = if c = peer d k then (if j = d then N else 0) else 0 := by
    rw [tallyAt_apply]
    by_cases h : c = peer d k
    · by_cases h2 : j = d
      · rw [if_pos h, if_pos h2, if_pos ⟨by rw [← h, h2], rfl⟩]
      · rw [if_pos h, if_neg h2, if_neg fun h' => h2 (congrArg Prod.snd (Option.some.inj (cell_inj (k := some (true, j)) (k' := some (true, d)) h'.1).2))]
    · rw [if_neg h, if_neg fun h' => h (cell_inj (k := some (true, j)) (k' := some (true, d)) h'.1).1]
  unfold owedSend
  rw [Finset.sum_apply, Finsupp.finsetSum_apply, Finset.sum_congr rfl fun k _ => h k, sum_peers d fun p => if c = p then (if j = d then N else 0) else 0,
    Finset.sum_ite_eq]
  by_cases hd : j = d
  · rw [if_pos (Finset.mem_erase.mpr ⟨fun h => hj (hd.trans h.symm), Finset.mem_univ _⟩)]
  · rw [if_neg hd, ite_self]

theorem launch_bar (c : Dev nD) :
    tallyOn (barCell c) (launchCredit (Pipeline.owing fun d => owedSig d 1) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c j : Dev nD) (hj : j ≠ c) :
    tallyOn (recvCell c j) (launchCredit (Pipeline.owing fun d => owedSend d 1) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j hj, Finset.sum_ite_eq, if_pos (Finset.mem_univ _)]

/-- The launch's credit, dealt to a device's cells. -/
theorem creds (c : Dev nD) : (Pipeline.launchCred O₀ c : sProp 𝕄) ⊢ credF c := by
  have hr : (Pipeline.launchCred (fun d => owedSend d 1) c : sProp 𝕄) ⊢ from' 1 fun k => cred (tallyAt (recvCell c (orig c k)) () N) := by
    have hj : Set.InjOn (fun k => SemLoc.dma (recvS (orig c k)) : ℕ → SemLoc sig) (Finset.Ico 1 16 : Finset ℕ) := fun k hk k' hk' h =>
      orig_inj c k hk k' hk' (congrArg Prod.snd (Option.some.inj (csem_injective (a₁ := some (true, orig c k)) (a₂ := some (true, orig c k')) h)))
    unfold Pipeline.launchCred
    refine (bigSep_subset (Finset.subset_univ ((Finset.Ico 1 16).image fun k => SemLoc.dma (recvS (orig c k))))).trans ?_
    rw [bigSep_image_of_injOn hj]
    exact Entails.of_eq (bigSep_congr fun k hk => congrArg cred (launch_recv c (orig c k) (orig_ne c k hk)))
  rw [show (O₀ : Dev nD → _) = fun d => owedSend d 1 + owedSig d 1 from rfl, Pipeline.launchCred_add]
  unfold credF
  iintro ⟨Hr, Hb⟩
  isplitl [Hb]
  · iapply ((Pipeline.launchCred_elim (fun d => owedSig d 1) c (SemLoc.reg barS)).trans (Entails.of_eq (congrArg cred (launch_bar c))))
    iexact Hb
  iapply hr; iexact Hr

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bPts aPts
  iintro ⟨Hs, -, Hb, Ha⟩
  isplitl [Hs]; · iexact Hs
  isplitl [Hb] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁ bPts aPts
  rw [sems_eq]
  iintro ⟨Hb, Ha, Hu, Ho⟩
  isplitl [Hu]; · iexact Hu
  isplitl [Ho]; · iexact Ho
  isplitl [Hb]
  · iexists _; iexact Hb
  iexact Ha

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- An array's contents after the run. -/
def finalA (c : Dev nD) (w : Fin cfg0.W) : Buf (Elt F) ((cfg0.win w).arr.view.loc (c : Thread nD τ)) := (dats m ρ 0 c).arrAt w cfg0.N
/-- Every device's arrays hold those. -/
def QC : PUnit × MemSt nD τ sig (Elt F) → Prop := fun r =>
  ∀ c : Dev nD, ∀ w : Fin cfg0.W, r.2.mem ((cfg0.win w).arr.view.loc (c : Thread nD τ)) = finalA m ρ c w

/-- For any float values and from any memory with the counters at zero, every weakly fair execution of the sixteen devices ends; then each device's
    arrays hold what the exchange and the product leave, and every semaphore counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- After the run the arguments hold what they held, and the result is the body's. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.Exchange

end
-- ==== Proof.Final.lean ====
/-
# The memory at the end of a run

For any float values: the result array of each device holds the activation of the product of `w` with the rows that the
device has gathered, its arguments are as they were, and every counter is at zero.
-/
module

public import proofs.«01_k».proof.Proof.Run

@[expose] public section

set_option maxRecDepth 16384

noncomputable section

namespace Cert.Exchange

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ) (ρ : Dev nD → PrngReg)

/-- The one block of a window that stages a whole array is that array: each index lies where it does in the array. -/
theorem whole_blk_emb {S : Shape} {e : EltTy} {cs : CoreSpace} (arr : Memref sig .tc .hbm S e) (out sync : Bool)
    (stage : Memref sig .tc (.core cs) ⟨S.rank, S.size⟩ e) (sm : DmaSem sig) (ha : arr.IsWhole) (hs : stage.IsWhole)
    (y : S.Idx) : ((Pipeline.Window.whole arr out sync stage sm ha hs).blk (0 : Fin 1)).view.emb y = arr.view.emb y := by
  refine congrArg arr.view.emb (funext fun a => Fin.ext ?_)
  show (((Pipeline.Window.whole arr out sync stage sm ha hs).rect (0 : Fin 1)).emb y a).val = (y a).val
  rw [Rect.emb_apply]
  show 0 * _ + 1 * (y a).val = _
  rw [Nat.zero_mul, Nat.zero_add, Nat.one_mul]

/-- What device `c` stages of `x` is the whole of its `x`; -/
theorem xstg_eq (c : Dev nD) : xstg m ρ c = m ((c : Thread nD τ).loc main_arg0) :=
  funext fun y => congrArg (m ((c : Thread nD τ).loc main_arg0)) (whole_blk_emb (Memref.whole main_arg0) _ _ _ _ _ _ y)

/-- and of `w`, the whole of `w`. -/
theorem wstg_eq (c : Dev nD) : wstg m ρ c = m ((c : Thread nD τ).loc main_arg1) :=
  funext fun y => congrArg (m ((c : Thread nD τ).loc main_arg1)) (whole_blk_emb (Memref.whole main_arg1) _ _ _ _ _ _ y)

/-- An index of the result lies where it does in the result array. -/
theorem out_blk_emb (y : S64x1024.Idx) : (win0_2.blk (0 : Fin 1)).view.emb y = y := whole_blk_emb (Memref.whole main_v1) _ _ _ _ _ _ y

/-- The result array ends as the body's result. -/
theorem finalA_o (c : Dev nD) : finalA m ρ c (2 : Fin 3) = outAt m ρ c :=
  (dats m ρ 0 c).arrAt_eq_of_cover 2 (outAt m ρ c)
    (fun t _ => by
      obtain rfl := fin_N0 t
      exact funext fun y => (congrArg (outAt m ρ c) (out_blk_emb y)).symm)
    (fun i => ⟨t0_0, flush0_2 _, Finset.mem_map.2 ⟨i, Finset.mem_univ _, out_blk_emb i⟩⟩)

/-- Every fair run ends with the result on each device, its arguments unchanged and every counter at zero. -/
theorem run_read : θ_run defs (onTc (τ := τ) (main (F := F))) ⟨m, fun _ => 0, ρ⟩ fun r => (∀ c : Dev nD,
      r.2.mem ((c : Thread nD τ).loc main_v1)
        = result (fun j => m ((j : Thread nD τ).loc main_arg0)) c (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  have e (c : Dev nD) : outAt m ρ c = result (fun j => m ((j : Thread nD τ).loc main_arg0)) c (m ((c : Thread nD τ).loc main_arg1)) :=
    congrArg₂ (fun x w => result x c w) (funext (xstg_eq m ρ)) (wstg_eq m ρ c)
  (θ_run defs _ _).mono (fun _ h => ⟨fun c => ⟨((h.1 c 2).trans (finalA_o m ρ c)).trans (e c),
    (h.1 c 0).trans (finalA_x m ρ c), (h.1 c 1).trans (finalA_w m ρ c)⟩, h.2⟩) (run_main m ρ)

end Cert.Exchange

end
-- ==== Proof.Value.lean ====
/-
# What the result is, over the extended reals

Device `c` gathers rows `64c … 64c+63` of the whole `x`, and so its result is the same rows of the activation of `x · w`.
-/
module

public import proofs.«01_k».proof.Proof.Final
public import proofs.«01_k».proof.Defs
public import proofs.«01_k».proof.Proof.Gen.ReferenceIdeal.Run
public import Idealize.ShloMosaic.Lib.MatmulPlain
public import Idealize.ShloMosaic.Lib.KernelVsHost
public import Idealize.ShloMosaic.Lib.Pipeline.Value

@[expose] public section

set_option maxRecDepth 16384

noncomputable section

namespace Cert.Exchange

open Cert.KernelIdeal Cert.KernelIdeal.Gen
open Idealize.ShloMosaic Idealize.ShloMosaic.TcCoe Idealize.SL.Sem Idealize.ShloMosaic.ValueIdx

/-- The whole `x` cut along its columns into the devices' blocks. -/
def cols (X : Vec Ideal S1024x1024 .f32) (j : Dev nD) : Vec Ideal S1024x64 .f32 :=
  Layout.block ⟨2, ![1024, 64]⟩ ⟨2, ![1024, 1024]⟩ 1 16 j X

/-- Row `a` of block `c`. -/
def rowOf (c : Dev nD) (a : Fin 64) : Fin 1024 := ⟨c.val * 64 + a.val, by have h : c.val < 16 := c.isLt; omega⟩

/-- What device `c` gathers, laid out as a matrix, is rows `64c … 64c+63` of the whole `x`. -/
theorem rows_apply (X : Vec Ideal S1024x1024 .f32) (c : Dev nD) (a : Fin 64) (k : Fin 1024) :
    shapeCast S64x1024 (transpose S64x16x64 [1, 0, 2] (gathered (cols X) c) transposes_S16x64x64_p1_0_2_S64x16x64)
      shapeCasts_S64x16x64_S64x1024 (ix2 a k) = X (ix2 (rowOf c a) k) := by
  have hj : k.val / 64 < 16 := by omega
  have hb : k.val % 64 < 64 := Nat.mod_lt _ (by norm_num)
  have e : Shape.reshapeEquiv shapeCasts_S64x16x64_S64x1024 (ix2 a k) = (ix3 a (⟨k.val / 64, hj⟩ : Fin 16) (⟨k.val % 64, hb⟩ : Fin 64) : S64x16x64.Idx) :=
    Shape.reshapeEquiv_eq_of_rowMajor _ (by
      rw [Shape.rowMajor_val_two, Shape.rowMajor_val_three]
      show (a.val * 16 + k.val / 64) * 64 + k.val % 64 = a.val * 1024 + k.val
      omega)
  refine (congrArg (transpose S64x16x64 [1, 0, 2] (gathered (cols X) c) transposes_S16x64x64_p1_0_2_S64x16x64) e).trans ?_
  refine (transpose_apply _ _ _ _ (ix3 (⟨k.val / 64, hj⟩ : Fin 16) a (⟨k.val % 64, hb⟩ : Fin 64) : S16x64x64.Idx)
    (fun b => match b with | ⟨0, _⟩ => rfl | ⟨1, _⟩ => rfl | ⟨2, _⟩ => rfl)).trans ?_
  refine congrArg X (funext fun b => Fin.ext ?_)
  match b with
  | ⟨0, _⟩ => show 64 * c.val + a.val = c.val * 64 + a.val; omega
  | ⟨1, _⟩ => show k.val / 64 * 64 + k.val % 64 = k.val; omega

/-- The reference's product of the whole `x` and `w`. -/
def product (X W : Vec Ideal S1024x1024 .f32) : FVec Ideal S1024x1024 .f32 :=
  Host.dotGeneral (φ₁ := .f32) (φ₂ := .f32) Cert.ReferenceIdeal.dot_S1024x1024_S1024x1024_S1024x1024_1_0_0_1_n_n none X W

/-- The product on device `c` is the rows of that product that are its block's: both are the same sums. -/
theorem part_apply (X W : Vec Ideal S1024x1024 .f32) (c : Dev nD) (a : Fin 64) (n : Fin 1024) :
    k0_pay3 (gathered (cols X) c) W (ix2 a n) = product X W (ix2 (rowOf c a) n) := by
  unfold k0_pay3 product
  rw [← matmul_zero_eq_dotGeneral]
  refine (Ideal.matmul_plain_apply none _ _ _ a n).trans ((Ideal.matmul_plain_apply none X W _ (rowOf c a) n).trans ?_).symm
  refine congrArg₂ _ rfl (Finset.sum_congr rfl fun k _ => ?_)
  rw [rows_apply, shapeCast_self]

/-- The activation of one entry, as the kernel computes it. -/
def gelu (y : Ideal .f32) : Ideal .f32 :=
  FloatOps.mulf (FloatOps.mulf (Scalar.ofBits .f32 0x3F000000#32) y)
    (FloatOps.addf (Scalar.ofBits .f32 0x3F800000#32)
      (FloatOps.tanh (FloatOps.mulf (Scalar.ofBits .f32 0x3F4C422A#32)
        (FloatOps.addf y (FloatOps.mulf (Scalar.ofBits .f32 0x3D372713#32) (FloatOps.mulf (FloatOps.mulf y y) y))))))

/-- The whole result: the activation of every entry of the product. -/
def whole (X W : Vec Ideal S1024x1024 .f32) : FVec Ideal S1024x1024 .f32 := fun i => gelu (product X W i)

/-- The kernel's result is the activation, entry by entry: it groups the factors of the cube in another order. -/
theorem result_apply (x : Dev nD → Vec Ideal S1024x64 .f32) (c : Dev nD) (w : Vec Ideal S1024x1024 .f32) (i : S64x1024.Idx) :
    result x c w i = gelu (k0_pay3 (gathered x c) w i) := by
  have h (k y : Ideal .f32) : FloatOps.mulf (FloatOps.mulf (FloatOps.mulf k y) y) y = FloatOps.mulf k (FloatOps.mulf (FloatOps.mulf y y) y) := by
    show ((k : EReal) * y) * y * y = k * (y * y * y)
    simp only [mul_assoc]
  unfold gelu
  rw [← h]
  rfl

/-- So device `c`'s result is block `c` of the rows of the whole. -/
theorem result_eq (X W : Vec Ideal S1024x1024 .f32) (c : Dev nD) :
    result (cols X) c W = Layout.block ⟨2, ![64, 1024]⟩ ⟨2, ![1024, 1024]⟩ 0 16 c (whole X W) := by
  funext i
  obtain ⟨a, n, rfl⟩ : ∃ (a : Fin 64) (n : Fin 1024), i = ix2 a n := ⟨i 0, i 1, eq_ix2 i⟩
  refine (result_apply _ _ _ _).trans ((congrArg gelu (part_apply X W c a n)).trans ?_)
  refine congrArg (whole X W) (funext fun b => Fin.ext ?_)
  match b with
  | ⟨0, _⟩ => rfl
  | ⟨1, _⟩ => rfl

/-- The reference ends with the whole in its result array, its arguments unchanged. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      ∀ c : Dev Cert.ReferenceIdeal.nD,
        r.2.mem (c.tc.loc Cert.ReferenceIdeal.main_v13)
          = whole (m (c.tc.loc Cert.ReferenceIdeal.main_arg0)) (m (c.tc.loc Cert.ReferenceIdeal.main_arg1))
        ∧ r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1) :=
  (θ_run Cert.ReferenceIdeal.defs _ _).mono (fun _ h c => ⟨(h c).1.trans rfl, (h c).2⟩)
    (Cert.ReferenceIdeal.Value.run (F := Ideal) m ρ)

/-- Kernel and reference compute the same function: each device ends with its block of the reference's result. -/
theorem algebraic : Cert.algebraic_KernelIdeal_ReferenceIdeal := fun m g m' g' _ hin =>
  ⟨whole (m' ((0 : Dev Cert.ReferenceIdeal.nD).tc.loc Cert.ReferenceIdeal.main_arg0)) (m' ((0 : Dev Cert.ReferenceIdeal.nD).tc.loc Cert.ReferenceIdeal.main_arg1)),
    (θ_run Cert.KernelIdeal.defs _ _).mono (fun _ h c => ⟨((h.1 c).1.trans
        (congrArg₂ (fun x w => result x c w) (funext fun j => (hin j).1) (hin c).2)).trans (result_eq _ _ c), (h.1 c).2⟩)
      (run_read (F := Ideal) m g),
    (θ_run Cert.ReferenceIdeal.defs _ _).mono (fun _ h => h 0) (reference_run m' g')⟩

end Cert.Exchange

end
-- ==== Proof.Frames.lean ====
/-
# The frames

Each program ends without a fault, with its arguments unchanged and every counter at zero. The kernel and its reading over
the extended reals are one text, so both frames are the one run, at two kinds of float values.
-/
module

public import proofs.«01_k».proof.Proof.Value
public import proofs.«01_k».proof.Proof.Gen.Kernel

@[expose] public section

set_option maxRecDepth 16384

noncomputable section

namespace Cert.Exchange

open Idealize.ShloMosaic Idealize.ShloMosaic.TcCoe Idealize.SL.Sem
open Cert.KernelIdeal (nD τ sig)

/-- The two programs have the same body table; -/
theorem bodies_eq : Cert.Kernel.defs₀ (F := Bits) = Cert.KernelIdeal.defs₀ (F := Bits) := by
  unfold Cert.Kernel.defs₀ Cert.KernelIdeal.defs₀
  refine congrArg Defs.onTc (funext fun l => ?_)
  match l with
  | ⟨0, _⟩ => funext a; rfl

/-- so they have the same labels' programs. -/
theorem defs_eq : Cert.KernelIdeal.defs (F := Bits) = Cert.Kernel.defs (F := Bits) :=
  congrArg (Pipeline.defs (Cert.KernelIdeal.pcfgs (F := Bits))) bodies_eq.symm

/-- The kernel's frame. -/
theorem frame_kernel : Cert.quiescent_Kernel := fun m ρ _ => by
  have h := (θ_run Cert.KernelIdeal.defs _ _).mono
    (fun _ h => (⟨fun c => (h.1 c).2, h.2⟩ : (∀ c : Dev nD, _ ∧ _) ∧ _)) (run_read (F := Bits) m ρ)
  rw [defs_eq] at h
  exact h

/-- The frame of the kernel over the extended reals. -/
theorem frame_ideal : Cert.quiescent_KernelIdeal := fun m ρ _ =>
  (θ_run Cert.KernelIdeal.defs _ _).mono (fun _ h => ⟨fun c => (h.1 c).2, h.2⟩) (run_read (F := Ideal) m ρ)

/-- The reference's frame: it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (reference_run m ρ)

end Cert.Exchange

end
-- ==== Proof.lean ====
module

public import proofs.«01_k».proof.Defs
public import proofs.«01_k».proof.Proof.Frames
public import proofs.«01_k».proof.Proof.Gen.Kernel
public import proofs.«01_k».proof.Proof.Gen.ReferenceIdeal.Run

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Exchange.frame_kernel, Cert.Exchange.frame_ideal, Cert.Exchange.frame_reference, trivial, Cert.Exchange.algebraic⟩

end Cert.Proof

end
